-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x5120 : Shape := ⟨3, ![6, 4096, 5120]⟩
abbrev S32x160x8192 : Shape := ⟨3, ![32, 160, 8192]⟩
abbrev S8192 : Shape := ⟨1, ![8192]⟩
abbrev S8192x160 : Shape := ⟨2, ![8192, 160]⟩
abbrev S160 : Shape := ⟨1, ![160]⟩
abbrev S1x8192 : Shape := ⟨2, ![1, 8192]⟩
abbrev S160x8192 : Shape := ⟨2, ![160, 8192]⟩
abbrev S160x1 : Shape := ⟨2, ![160, 1]⟩
abbrev S3x2x4096x8192 : Shape := ⟨4, ![3, 2, 4096, 8192]⟩
abbrev S3x2x1x4095 : Shape := ⟨4, ![3, 2, 1, 4095]⟩
abbrev S3x2x160x4095 : Shape := ⟨4, ![3, 2, 160, 4095]⟩
abbrev S1x512x5120 : Shape := ⟨3, ![1, 512, 5120]⟩
abbrev S32x128x512 : Shape := ⟨3, ![32, 128, 512]⟩
abbrev S32x32x512 : Shape := ⟨3, ![32, 32, 512]⟩
abbrev S1x512 : Shape := ⟨2, ![1, 512]⟩
abbrev S1x1x512x8192 : Shape := ⟨4, ![1, 1, 512, 8192]⟩
abbrev S1x1x1x512 : Shape := ⟨4, ![1, 1, 1, 512]⟩
abbrev S1x1x160x512 : Shape := ⟨4, ![1, 1, 160, 512]⟩
abbrev S16x512x512 : Shape := ⟨3, ![16, 512, 512]⟩
abbrev S512x128 : Shape := ⟨2, ![512, 128]⟩
abbrev S1x512x4096 : Shape := ⟨3, ![1, 512, 4096]⟩
abbrev S512x4096 : Shape := ⟨2, ![512, 4096]⟩
abbrev S4096x512 : Shape := ⟨2, ![4096, 512]⟩
abbrev S512x512 : Shape := ⟨2, ![512, 512]⟩
abbrev S1x512x1024 : Shape := ⟨3, ![1, 512, 1024]⟩
abbrev S512x1024 : Shape := ⟨2, ![512, 1024]⟩
abbrev S1024x512 : Shape := ⟨2, ![1024, 512]⟩
abbrev S1x512x512 : Shape := ⟨3, ![1, 512, 512]⟩
abbrev S512 : Shape := ⟨1, ![512]⟩
abbrev S512x1 : Shape := ⟨2, ![512, 1]⟩
abbrev S128x512 : Shape := ⟨2, ![128, 512]⟩
abbrev S160x512 : Shape := ⟨2, ![160, 512]⟩
abbrev S1x1x512x512 : Shape := ⟨4, ![1, 1, 512, 512]⟩
abbrev S8x512 : Shape := ⟨2, ![8, 512]⟩

abbrev nBuf : Space → Nat
  | .hbm => 16
  | .vmem => 23
  | .smem => 0
  | _ => 0

abbrev bufTy : (tb : Table) → Fin (tcTables nBuf tb) → BufTy
  | .hbm, ⟨0, _⟩ => ⟨S6x4096x5120, .bf16⟩
  | .hbm, ⟨1, _⟩ => ⟨S32x160x8192, .fp8e4m3⟩
  | .hbm, ⟨2, _⟩ => ⟨S8192, .f32⟩
  | .hbm, ⟨3, _⟩ => ⟨S8192, .f32⟩
  | .hbm, ⟨4, _⟩ => ⟨S8192x160, .fp8e4m3⟩
  | .hbm, ⟨5, _⟩ => ⟨S160, .f32⟩
  | .hbm, ⟨6, _⟩ => ⟨S160, .f32⟩
  | .hbm, ⟨7, _⟩ => ⟨S1x8192, .f32⟩
  | .hbm, ⟨8, _⟩ => ⟨S1x8192, .f32⟩
  | .hbm, ⟨9, _⟩ => ⟨S160x8192, .fp8e4m3⟩
  | .hbm, ⟨10, _⟩ => ⟨S160x1, .f32⟩
  | .hbm, ⟨11, _⟩ => ⟨S160x1, .f32⟩
  | .hbm, ⟨12, _⟩ => ⟨S3x2x4096x8192, .fp8e4m3⟩
  | .hbm, ⟨13, _⟩ => ⟨S3x2x1x4095, .f32⟩
  | .hbm, ⟨14, _⟩ => ⟨S3x2x160x4095, .fp8e4m3⟩
  | .hbm, ⟨15, _⟩ => ⟨S3x2x1x4095, .f32⟩
  | .local _ .vmem, ⟨0, _⟩ => ⟨S1x512x5120, .bf16⟩
  | .local _ .vmem, ⟨1, _⟩ => ⟨S1x512x5120, .bf16⟩
  | .local _ .vmem, ⟨2, _⟩ => ⟨S32x128x512, .fp8e4m3⟩
  | .local _ .vmem, ⟨3, _⟩ => ⟨S32x128x512, .fp8e4m3⟩
  | .local _ .vmem, ⟨4, _⟩ => ⟨S32x32x512, .fp8e4m3⟩
  | .local _ .vmem, ⟨5, _⟩ => ⟨S32x32x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S160x8192, .fp8e4m3⟩
  | .local _ .vmem, ⟨11, _⟩ => ⟨S160x1, .f32⟩
  | .local _ .vmem, ⟨12, _⟩ => ⟨S160x1, .f32⟩
  | .local _ .vmem, ⟨13, _⟩ => ⟨S1x1x512x8192, .fp8e4m3⟩
  | .local _ .vmem, ⟨14, _⟩ => ⟨S1x1x512x8192, .fp8e4m3⟩
  | .local _ .vmem, ⟨15, _⟩ => ⟨S1x1x1x512, .f32⟩
  | .local _ .vmem, ⟨16, _⟩ => ⟨S1x1x1x512, .f32⟩
  | .local _ .vmem, ⟨17, _⟩ => ⟨S1x1x160x512, .fp8e4m3⟩
  | .local _ .vmem, ⟨18, _⟩ => ⟨S1x1x160x512, .fp8e4m3⟩
  | .local _ .vmem, ⟨19, _⟩ => ⟨S1x1x1x512, .f32⟩
  | .local _ .vmem, ⟨20, _⟩ => ⟨S1x1x1x512, .f32⟩
  | .local _ .vmem, ⟨21, _⟩ => ⟨S16x512x512, .f32⟩
  | .local _ .vmem, ⟨22, _⟩ => ⟨S512x128, .f32⟩
  | _, _ => ⟨S6x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![48, 16], ![false, false]⟩

def k0_off1 (i : grid0.Coords) : Fin 3 → Nat :=
  let arg1 : BitVec 32 := BitVec.ofNat 32 (i 1).val
  let v27 : Index := Scalar.indexCast arg1
  let c0_18 : Index := 0#32
  let c0_19 : Index := 0#32
  ![v27.toNat, 0, 0]
def k0_cond1 (i : grid0.Coords) : BitVec 1 :=
  let arg1 : BitVec 32 := BitVec.ofNat 32 (i 1).val
  let c15_i32 : BitVec 32 := 15#32
  let v46 : BitVec 1 := Scalar.cmpi .eq arg1 c15_i32
  let v47 : BitVec 32 := Scalar.extui v46
  let c0_i32_24 : BitVec 32 := 0#32
  let v48 : BitVec 1 := Scalar.cmpi .ne v47 c0_i32_24
  v48

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi arg0 c8_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi arg0 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32 : BitVec 32 := 2#32
  let c0_i32_10 : BitVec 32 := 0#32
  let v34 : BitVec 1 := Scalar.cmpi .eq c2_i32 c0_i32_10
  let c1_i32_11 : BitVec 32 := 1#32
  let v35 : BitVec 32 := Scalar.select v34 c1_i32_11 c2_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c8_i32_15 : BitVec 32 := 8#32
  let c0_i32_16 : BitVec 32 := 0#32
  let v44 : BitVec 1 := Scalar.cmpi .eq c8_i32_15 c0_i32_16
  let c1_i32_17 : BitVec 32 := 1#32
  let v45 : BitVec 32 := Scalar.select v44 c1_i32_17 c8_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c0_i32_22 : BitVec 32 := 0#32
  ![v16.toNat, v43.toNat, v53.toNat, c0_i32_21.toNat]

def cc0_transform_9 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi arg0 c8_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi arg0 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32 : BitVec 32 := 2#32
  let c0_i32_10 : BitVec 32 := 0#32
  let v34 : BitVec 1 := Scalar.cmpi .eq c2_i32 c0_i32_10
  let c1_i32_11 : BitVec 32 := 1#32
  let v35 : BitVec 32 := Scalar.select v34 c1_i32_11 c2_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c8_i32_15 : BitVec 32 := 8#32
  let c0_i32_16 : BitVec 32 := 0#32
  let v44 : BitVec 1 := Scalar.cmpi .eq c8_i32_15 c0_i32_16
  let c1_i32_17 : BitVec 32 := 1#32
  let v45 : BitVec 32 := Scalar.select v44 c1_i32_17 c8_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c0_i32_22 : BitVec 32 := 0#32
  ![v16.toNat, v43.toNat, c0_i32_21.toNat, v53.toNat]

def cc0_transform_10 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi arg0 c8_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi arg0 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32 : BitVec 32 := 2#32
  let c0_i32_10 : BitVec 32 := 0#32
  let v34 : BitVec 1 := Scalar.cmpi .eq c2_i32 c0_i32_10
  let c1_i32_11 : BitVec 32 := 1#32
  let v35 : BitVec 32 := Scalar.select v34 c1_i32_11 c2_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c8_i32_15 : BitVec 32 := 8#32
  let c0_i32_16 : BitVec 32 := 0#32
  let v44 : BitVec 1 := Scalar.cmpi .eq c8_i32_15 c0_i32_16
  let c1_i32_17 : BitVec 32 := 1#32
  let v45 : BitVec 32 := Scalar.select v44 c1_i32_17 c8_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c0_i32_22 : BitVec 32 := 0#32
  ![v16.toNat, v43.toNat, c0_i32_21.toNat, v53.toNat]

def cc0_transform_11 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi arg0 c8_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi arg0 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32 : BitVec 32 := 2#32
  let c0_i32_10 : BitVec 32 := 0#32
  let v34 : BitVec 1 := Scalar.cmpi .eq c2_i32 c0_i32_10
  let c1_i32_11 : BitVec 32 := 1#32
  let v35 : BitVec 32 := Scalar.select v34 c1_i32_11 c2_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c8_i32_15 : BitVec 32 := 8#32
  let c0_i32_16 : BitVec 32 := 0#32
  let v44 : BitVec 1 := Scalar.cmpi .eq c8_i32_15 c0_i32_16
  let c1_i32_17 : BitVec 32 := 1#32
  let v45 : BitVec 32 := Scalar.select v44 c1_i32_17 c8_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c0_i32_22 : BitVec 32 := 0#32
  ![v16.toNat, v43.toNat, c0_i32_21.toNat, v53.toNat]

abbrev stage0_0 : Fin 2 → Memref sig .tc .vmem S1x512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x128x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x32x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S160x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S160x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S160x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x512x8192 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x160x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S6x4096x5120 : Shape := ⟨3, ![6, 4096, 5120]⟩
abbrev S32x160x8192 : Shape := ⟨3, ![32, 160, 8192]⟩
abbrev S8192 : Shape := ⟨1, ![8192]⟩
abbrev S8192x160 : Shape := ⟨2, ![8192, 160]⟩
abbrev S160 : Shape := ⟨1, ![160]⟩
abbrev S1x8192 : Shape := ⟨2, ![1, 8192]⟩
abbrev S1x160 : Shape := ⟨2, ![1, 160]⟩
abbrev S3x2x4096x8192 : Shape := ⟨4, ![3, 2, 4096, 8192]⟩
abbrev S3x2x1x4095 : Shape := ⟨4, ![3, 2, 1, 4095]⟩
abbrev S3x2x160x4095 : Shape := ⟨4, ![3, 2, 160, 4095]⟩
abbrev S6x4096x4096 : Shape := ⟨3, ![6, 4096, 4096]⟩
abbrev S24576x32x128 : Shape := ⟨3, ![24576, 32, 128]⟩
abbrev S6x4096x1024 : Shape := ⟨3, ![6, 4096, 1024]⟩
abbrev S24576x32x32 : Shape := ⟨3, ![24576, 32, 32]⟩
abbrev S24576x32x160 : Shape := ⟨3, ![24576, 32, 160]⟩
abbrev S24576x5120 : Shape := ⟨2, ![24576, 5120]⟩
abbrev S5120x8192 : Shape := ⟨2, ![5120, 8192]⟩
abbrev S24576x8192 : Shape := ⟨2, ![24576, 8192]⟩
abbrev S24576 : Shape := ⟨1, ![24576]⟩
abbrev S24576x1 : Shape := ⟨2, ![24576, 1]⟩
abbrev S24576x160 : Shape := ⟨2, ![24576, 160]⟩
abbrev S3x2x4096x1 : Shape := ⟨4, ![3, 2, 4096, 1]⟩
abbrev S3x2x4095x1 : Shape := ⟨4, ![3, 2, 4095, 1]⟩
abbrev S3x2x4096x160 : Shape := ⟨4, ![3, 2, 4096, 160]⟩
abbrev S3x2x4095x160 : Shape := ⟨4, ![3, 2, 4095, 160]⟩

abbrev nBuf : Space → Nat
  | .hbm => 15
  | .vmem => 11
  | .smem => 0
  | _ => 0

abbrev bufTy : (tb : Table) → Fin (tcTables nBuf tb) → BufTy
  | .hbm, ⟨0, _⟩ => ⟨S6x4096x5120, .bf16⟩
  | .hbm, ⟨1, _⟩ => ⟨S32x160x8192, .fp8e4m3⟩
  | .hbm, ⟨2, _⟩ => ⟨S8192, .f32⟩
  | .hbm, ⟨3, _⟩ => ⟨S8192, .f32⟩
  | .hbm, ⟨4, _⟩ => ⟨S8192x160, .fp8e4m3⟩
  | .hbm, ⟨5, _⟩ => ⟨S160, .f32⟩
  | .hbm, ⟨6, _⟩ => ⟨S160, .f32⟩
  | .hbm, ⟨7, _⟩ => ⟨S1x8192, .f32⟩
  | .hbm, ⟨8, _⟩ => ⟨S1x8192, .f32⟩
  | .hbm, ⟨9, _⟩ => ⟨S1x160, .f32⟩
  | .hbm, ⟨10, _⟩ => ⟨S1x160, .f32⟩
  | .hbm, ⟨11, _⟩ => ⟨S3x2x4096x8192, .fp8e4m3⟩
  | .hbm, ⟨12, _⟩ => ⟨S3x2x1x4095, .f32⟩
  | .hbm, ⟨13, _⟩ => ⟨S3x2x160x4095, .fp8e4m3⟩
  | .hbm, ⟨14, _⟩ => ⟨S3x2x1x4095, .f32⟩
  | .local _ .vmem, ⟨0, _⟩ => ⟨S6x4096x5120, .bf16⟩
  | .local _ .vmem, ⟨1, _⟩ => ⟨S32x160x8192, .fp8e4m3⟩
  | .local _ .vmem, ⟨2, _⟩ => ⟨S1x8192, .f32⟩
  | .local _ .vmem, ⟨3, _⟩ => ⟨S1x8192, .f32⟩
  | .local _ .vmem, ⟨4, _⟩ => ⟨S8192x160, .fp8e4m3⟩
  | .local _ .vmem, ⟨5, _⟩ => ⟨S1x160, .f32⟩
  | .local _ .vmem, ⟨6, _⟩ => ⟨S1x160, .f32⟩
  | .local _ .vmem, ⟨7, _⟩ => ⟨S3x2x4096x8192, .fp8e4m3⟩
  | .local _ .vmem, ⟨8, _⟩ => ⟨S3x2x1x4095, .f32⟩
  | .local _ .vmem, ⟨9, _⟩ => ⟨S3x2x160x4095, .fp8e4m3⟩
  | .local _ .vmem, ⟨10, _⟩ => ⟨S3x2x1x4095, .f32⟩
  | _, _ => ⟨S6x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6x4096x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x160x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x160 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x2x4096x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x2x1x4095 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x2x160x4095 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x2x1x4095 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Bits.Points.lean ====
/- The points of the kernel's grid in closed form, its staging buffers and its two scratch buffers (the hidden tile `arg14`, the running maxima `arg15`). -/
module

public import proofs.«01_k».proof.Proof.Gen.Kernel.Frame

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The condition of the body's one `scf.if`, and where the outputs are idle -/

/-- The body's `scf.if` is taken on the last hidden chunk of a row tile. -/
abbrev cond0_0 (i : grid0.Coords) : Prop := k0_cond1 i = 1#1
/-- The condition holds exactly at the last of the sixteen points of a row tile. -/
theorem hcond0_0 : ∀ t : Fin cfg0.N, cond0_0 (grid0.coords t) ↔ t.val % 16 = 15 := by decide +kernel
/-- Input 0 is never idle. -/
theorem liveAt0_0 : ∀ t : Fin cfg0.N, cfg0.idle 0 (grid0.coords t) = false := fun _ => rfl
/-- Input 1 is never idle. -/
theorem liveAt0_1 : ∀ t : Fin cfg0.N, cfg0.idle 1 (grid0.coords t) = false := fun _ => rfl
/-- Input 2 is never idle. -/
theorem liveAt0_2 : ∀ t : Fin cfg0.N, cfg0.idle 2 (grid0.coords t) = false := fun _ => rfl
/-- Input 3 is never idle. -/
theorem liveAt0_3 : ∀ t : Fin cfg0.N, cfg0.idle 3 (grid0.coords t) = false := fun _ => rfl
/-- Input 4 is never idle. -/
theorem liveAt0_4 : ∀ t : Fin cfg0.N, cfg0.idle 4 (grid0.coords t) = false := fun _ => rfl
/-- Input 5 is never idle. -/
theorem liveAt0_5 : ∀ t : Fin cfg0.N, cfg0.idle 5 (grid0.coords t) = false := fun _ => rfl
/-- Input 6 is never idle. -/
theorem liveAt0_6 : ∀ t : Fin cfg0.N, cfg0.idle 6 (grid0.coords t) = false := fun _ => rfl
/-- Input 7 is never idle. -/
theorem liveAt0_7 : ∀ t : Fin cfg0.N, cfg0.idle 7 (grid0.coords t) = false := fun _ => rfl
/-- Output 8 is idle, and not written back, before the last hidden chunk of a row tile; there it is live. -/
theorem idleAt0_8 : ∀ t : Fin cfg0.N, ¬cond0_0 (grid0.coords t) → cfg0.idle 8 (grid0.coords t) = true := by decide +kernel
/-- Output 8 is not written back before the last hidden chunk of a row tile. -/
theorem noFlush0_8 : ∀ t : Fin cfg0.N, ¬cond0_0 (grid0.coords t) → (cfg0.win 8).flush t = false := by decide +kernel
/-- Output 8 is live on the last hidden chunk of a row tile. -/
theorem liveAt0_8 : ∀ t : Fin cfg0.N, cond0_0 (grid0.coords t) → cfg0.idle 8 (grid0.coords t) = false := by decide +kernel
/-- Output 9 is idle, and not written back, before the last hidden chunk of a row tile; there it is live. -/
theorem idleAt0_9 : ∀ t : Fin cfg0.N, ¬cond0_0 (grid0.coords t) → cfg0.idle 9 (grid0.coords t) = true := by decide +kernel
/-- Output 9 is not written back before the last hidden chunk of a row tile. -/
theorem noFlush0_9 : ∀ t : Fin cfg0.N, ¬cond0_0 (grid0.coords t) → (cfg0.win 9).flush t = false := by decide +kernel
/-- Output 9 is live on the last hidden chunk of a row tile. -/
theorem liveAt0_9 : ∀ t : Fin cfg0.N, cond0_0 (grid0.coords t) → cfg0.idle 9 (grid0.coords t) = false := by decide +kernel
/-- Output 10 is idle, and not written back, before the last hidden chunk of a row tile; there it is live. -/
theorem idleAt0_10 : ∀ t : Fin cfg0.N, ¬cond0_0 (grid0.coords t) → cfg0.idle 10 (grid0.coords t) = true := by decide +kernel
/-- Output 10 is not written back before the last hidden chunk of a row tile. -/
theorem noFlush0_10 : ∀ t : Fin cfg0.N, ¬cond0_0 (grid0.coords t) → (cfg0.win 10).flush t = false := by decide +kernel
/-- Output 10 is live on the last hidden chunk of a row tile. -/
theorem liveAt0_10 : ∀ t : Fin cfg0.N, cond0_0 (grid0.coords t) → cfg0.idle 10 (grid0.coords t) = false := by decide +kernel
/-- Output 11 is idle, and not written back, before the last hidden chunk of a row tile; there it is live. -/
theorem idleAt0_11 : ∀ t : Fin cfg0.N, ¬cond0_0 (grid0.coords t) → cfg0.idle 11 (grid0.coords t) = true := by decide +kernel
/-- Output 11 is not written back before the last hidden chunk of a row tile. -/
theorem noFlush0_11 : ∀ t : Fin cfg0.N, ¬cond0_0 (grid0.coords t) → (cfg0.win 11).flush t = false := by decide +kernel
/-- Output 11 is live on the last hidden chunk of a row tile. -/
theorem liveAt0_11 : ∀ t : Fin cfg0.N, cond0_0 (grid0.coords t) → cfg0.idle 11 (grid0.coords t) = false := by decide +kernel

/-- The slice of the hidden tile a point stores: slice `t % 16`. -/
theorem hoff0 : ∀ t : Fin cfg0.N, k0_off1 (grid0.coords t) = ![t.val % 16, 0, 0] := by decide +kernel
/-- On the last hidden chunk of a row tile the slice stored is slice 15. -/
theorem hoff0_last (t : Fin cfg0.N) (h : t.val % 16 = 15) : k0_off1 (grid0.coords t) = ![15, 0, 0] := by rw [hoff0, h]

/-! ## Staging buffers and scratch -/

/-- One staging buffer of output window 8, through which its contents are stated. -/
abbrev VO0_8 : View sig .tc .vmem S1x1x512x8192 .fp8e4m3 := (Memref.whole cc0_stg8_0 : Memref sig .tc .vmem S1x1x512x8192 .fp8e4m3).view
/-- One staging buffer of output window 9, through which its contents are stated. -/
abbrev VO0_9 : View sig .tc .vmem S1x1x1x512 .f32 := (Memref.whole cc0_stg9_0 : Memref sig .tc .vmem S1x1x1x512 .f32).view
/-- One staging buffer of output window 10, through which its contents are stated. -/
abbrev VO0_10 : View sig .tc .vmem S1x1x160x512 .fp8e4m3 := (Memref.whole cc0_stg10_0 : Memref sig .tc .vmem S1x1x160x512 .fp8e4m3).view
/-- One staging buffer of output window 11, through which its contents are stated. -/
abbrev VO0_11 : View sig .tc .vmem S1x1x1x512 .f32 := (Memref.whole cc0_stg11_0 : Memref sig .tc .vmem S1x1x1x512 .f32).view
/-- Window 0's staging buffer at point `t`, and that it is a whole buffer. -/
abbrev ms0_0 (t : Fin cfg0.N) : Memref sig .tc .vmem S1x512x5120 .bf16 := win0_0.stage (cfg0.slots t 0)
abbrev hs0_0 (t : Fin cfg0.N) : (ms0_0 t).IsWhole := hstage0_0 ((cfg0.slots t 0).cast nbuf0_0)
/-- Window 1's staging buffer at point `t`, and that it is a whole buffer. -/
abbrev ms0_1 (t : Fin cfg0.N) : Memref sig .tc .vmem S32x128x512 .fp8e4m3 := win0_1.stage (cfg0.slots t 1)
abbrev hs0_1 (t : Fin cfg0.N) : (ms0_1 t).IsWhole := hstage0_1 ((cfg0.slots t 1).cast nbuf0_1)
/-- Window 2's staging buffer at point `t`, and that it is a whole buffer. -/
abbrev ms0_2 (t : Fin cfg0.N) : Memref sig .tc .vmem S32x32x512 .fp8e4m3 := win0_2.stage (cfg0.slots t 2)
abbrev hs0_2 (t : Fin cfg0.N) : (ms0_2 t).IsWhole := hstage0_2 ((cfg0.slots t 2).cast nbuf0_2)
/-- Window 3's staging buffer at point `t`, and that it is a whole buffer. -/
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
/-- Window 4's staging buffer at point `t`, and that it is a whole buffer. -/
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
/-- Window 5's staging buffer at point `t`, and that it is a whole buffer. -/
abbrev ms0_5 (t : Fin cfg0.N) : Memref sig .tc .vmem S160x8192 .fp8e4m3 := win0_5.stage (cfg0.slots t 5)
abbrev hs0_5 (t : Fin cfg0.N) : (ms0_5 t).IsWhole := hstage0_5 ((cfg0.slots t 5).cast nbuf0_5)
/-- Window 6's staging buffer at point `t`, and that it is a whole buffer. -/
abbrev ms0_6 (t : Fin cfg0.N) : Memref sig .tc .vmem S160x1 .f32 := win0_6.stage (cfg0.slots t 6)
abbrev hs0_6 (t : Fin cfg0.N) : (ms0_6 t).IsWhole := hstage0_6 ((cfg0.slots t 6).cast nbuf0_6)
/-- Window 7's staging buffer at point `t`, and that it is a whole buffer. -/
abbrev ms0_7 (t : Fin cfg0.N) : Memref sig .tc .vmem S160x1 .f32 := win0_7.stage (cfg0.slots t 7)
abbrev hs0_7 (t : Fin cfg0.N) : (ms0_7 t).IsWhole := hstage0_7 ((cfg0.slots t 7).cast nbuf0_7)
/-- Window 8's staging buffer at point `t`, and that it is a whole buffer. -/
abbrev ms0_8 (t : Fin cfg0.N) : Memref sig .tc .vmem S1x1x512x8192 .fp8e4m3 := win0_8.stage (cfg0.slots t 8)
abbrev hs0_8 (t : Fin cfg0.N) : (ms0_8 t).IsWhole := hstage0_8 ((cfg0.slots t 8).cast nbuf0_8)
/-- Window 9's staging buffer at point `t`, and that it is a whole buffer. -/
abbrev ms0_9 (t : Fin cfg0.N) : Memref sig .tc .vmem S1x1x1x512 .f32 := win0_9.stage (cfg0.slots t 9)
abbrev hs0_9 (t : Fin cfg0.N) : (ms0_9 t).IsWhole := hstage0_9 ((cfg0.slots t 9).cast nbuf0_9)
/-- Window 10's staging buffer at point `t`, and that it is a whole buffer. -/
abbrev ms0_10 (t : Fin cfg0.N) : Memref sig .tc .vmem S1x1x160x512 .fp8e4m3 := win0_10.stage (cfg0.slots t 10)
abbrev hs0_10 (t : Fin cfg0.N) : (ms0_10 t).IsWhole := hstage0_10 ((cfg0.slots t 10).cast nbuf0_10)
/-- Window 11's staging buffer at point `t`, and that it is a whole buffer. -/
abbrev ms0_11 (t : Fin cfg0.N) : Memref sig .tc .vmem S1x1x1x512 .f32 := win0_11.stage (cfg0.slots t 11)
abbrev hs0_11 (t : Fin cfg0.N) : (ms0_11 t).IsWhole := hstage0_11 ((cfg0.slots t 11).cast nbuf0_11)
/-- Scratch buffer 0. -/
abbrev scM0_0 : Memref sig .tc .vmem S16x512x512 .f32 := Memref.whole cc0_scratch0
/-- Scratch buffer 1. -/
abbrev scM0_1 : Memref sig .tc .vmem S512x128 .f32 := Memref.whole cc0_scratch1

/-- What the launch hands the region beside the windows: the two scratch buffers at anything, the generator register at
    some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Run

end
-- ==== Proof.Bits.RunA.lean ====
/- The kernel's body as one run, before the last hidden chunk of a row tile: it stores its slice of the hidden tile and updates the running maxima. -/
module

public import proofs.«01_k».proof.Proof.Bits.Points
public import proofs.«01_k».proof.Proof.Gen.Kernel.Skeleton

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body before the last chunk: from the inputs at `x·`, the outputs at `xi·`, the hidden tile at `xs0` and the maxima at `xs1`, it
    ends with the inputs and outputs as they were and with the pieces `LS0`, `LS1` stored over the two scratch buffers. -/
noncomputable def kernelRun0_A (c : Dev nD) (i : grid0.Coords) (arg2 : Memref sig .tc .vmem S1x512x5120 .bf16) (harg2 : arg2.IsWhole) (arg3 : Memref sig .tc .vmem S32x128x512 .fp8e4m3) (harg3 : arg3.IsWhole) (arg4 : Memref sig .tc .vmem S32x32x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S160x8192 .fp8e4m3) (harg7 : arg7.IsWhole) (arg8 : Memref sig .tc .vmem S160x1 .f32) (harg8 : arg8.IsWhole) (arg9 : Memref sig .tc .vmem S160x1 .f32) (harg9 : arg9.IsWhole) (arg10 : Memref sig .tc .vmem S1x1x512x8192 .fp8e4m3) (harg10 : arg10.IsWhole) (arg11 : Memref sig .tc .vmem S1x1x1x512 .f32) (harg11 : arg11.IsWhole) (arg12 : Memref sig .tc .vmem S1x1x160x512 .fp8e4m3) (harg12 : arg12.IsWhole) (arg13 : Memref sig .tc .vmem S1x1x1x512 .f32) (harg13 : arg13.IsWhole) (arg14 : Memref sig .tc .vmem S16x512x512 .f32) (harg14 : arg14.IsWhole) (arg15 : Memref sig .tc .vmem S512x128 .f32) (harg15 : arg15.IsWhole) (hc0 : ¬cond0_0 i)
    (x0 : Vec F S1x512x5120 .bf16) (x1 : Vec F S32x128x512 .fp8e4m3) (x2 : Vec F S32x32x512 .fp8e4m3) (x3 : Vec F S1x512 .f32) (x4 : Vec F S1x512 .f32) (x5 : Vec F S160x8192 .fp8e4m3) (x6 : Vec F S160x1 .f32) (x7 : Vec F S160x1 .f32) (xs1 : Vec F S512x128 .f32) :
    Σ' (LS0 : List (View.Piece (Elt F) S16x512x512 .f32)), { LS1 : List (View.Piece (Elt F) S512x128 .f32) //
      ∀ (xi8 : Vec F S1x1x512x8192 .fp8e4m3) (xi9 : Vec F S1x1x1x512 .f32) (xi10 : Vec F S1x1x160x512 .fp8e4m3) (xi11 : Vec F S1x1x1x512 .f32) (xs0 : Vec F S16x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (arg14.view.loc (c : Thread nD τ) ↦[arg14.view.set]{fullShare} arg14.view.writes (Elt F) (harg14.unread xs0) LS0) ∗ (∃ f, arg15.view.loc (c : Thread nD τ) ↦[arg15.view.set]{fullShare} arg15.view.writes (Elt F) f LS1)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi8 xi9 xi10 xi11 xs0 E K => ?run⟩
  case run =>
    simp only [cc0_mlp_eq_skeleton]; unfold cc0_mlp_skel
    simp only [k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexact HS0
    iexists _; iexact HS1

end Cert.Kernel.Run

end
-- ==== Proof.Bits.RunB.lean ====
/- The kernel's body as one run, on the last hidden chunk of a row tile: besides its own slice it quantises the whole hidden tile and forms the second product. -/
module

public import proofs.«01_k».proof.Proof.Bits.RunA

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on the last chunk: from the inputs at `x·`, the hidden tile with slice `k` at `ps k` for `k < 15` and the maxima at `xs1`, it ends
    with the inputs as they were and with the pieces `L·` stored over the outputs, `LS·` over the two scratch buffers. -/
noncomputable def kernelRun0_B (c : Dev nD) (i : grid0.Coords) (arg2 : Memref sig .tc .vmem S1x512x5120 .bf16) (harg2 : arg2.IsWhole) (arg3 : Memref sig .tc .vmem S32x128x512 .fp8e4m3) (harg3 : arg3.IsWhole) (arg4 : Memref sig .tc .vmem S32x32x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S160x8192 .fp8e4m3) (harg7 : arg7.IsWhole) (arg8 : Memref sig .tc .vmem S160x1 .f32) (harg8 : arg8.IsWhole) (arg9 : Memref sig .tc .vmem S160x1 .f32) (harg9 : arg9.IsWhole) (arg10 : Memref sig .tc .vmem S1x1x512x8192 .fp8e4m3) (harg10 : arg10.IsWhole) (arg11 : Memref sig .tc .vmem S1x1x1x512 .f32) (harg11 : arg11.IsWhole) (arg12 : Memref sig .tc .vmem S1x1x160x512 .fp8e4m3) (harg12 : arg12.IsWhole) (arg13 : Memref sig .tc .vmem S1x1x1x512 .f32) (harg13 : arg13.IsWhole) (arg14 : Memref sig .tc .vmem S16x512x512 .f32) (harg14 : arg14.IsWhole) (arg15 : Memref sig .tc .vmem S512x128 .f32) (harg15 : arg15.IsWhole) (hc0 : cond0_0 i) (hl0 : k0_off1 i = ![15, 0, 0])
    (x0 : Vec F S1x512x5120 .bf16) (x1 : Vec F S32x128x512 .fp8e4m3) (x2 : Vec F S32x32x512 .fp8e4m3) (x3 : Vec F S1x512 .f32) (x4 : Vec F S1x512 .f32) (x5 : Vec F S160x8192 .fp8e4m3) (x6 : Vec F S160x1 .f32) (x7 : Vec F S160x1 .f32) (xs1 : Vec F S512x128 .f32) (ps : ℕ → Vec F S1x512x512 .f32) :
    Σ' (L8 : List (View.Piece (Elt F) S1x1x512x8192 .fp8e4m3)), Σ' (L9 : List (View.Piece (Elt F) S1x1x1x512 .f32)), Σ' (L10 : List (View.Piece (Elt F) S1x1x160x512 .fp8e4m3)), Σ' (L11 : List (View.Piece (Elt F) S1x1x1x512 .f32)), Σ' (LS0 : List (View.Piece (Elt F) S16x512x512 .f32)), { LS1 : List (View.Piece (Elt F) S512x128 .f32) //
      ∀ (xs0 : Vec F S16x512x512 .f32) (hps0_0 : View.readAt (Elt F) arg14.view (Rect.unit (s := S16x512x512) ![0, 0, 0] S1x512x512.size inb_S16x512x512_S1x512x512_0_0_0).toLoadRect (harg14.unread xs0) = ps 0) (hps0_1 : View.readAt (Elt F) arg14.view (Rect.unit (s := S16x512x512) ![1, 0, 0] S1x512x512.size inb_S16x512x512_S1x512x512_1_0_0).toLoadRect (harg14.unread xs0) = ps 1) (hps0_2 : View.readAt (Elt F) arg14.view (Rect.unit (s := S16x512x512) ![2, 0, 0] S1x512x512.size inb_S16x512x512_S1x512x512_2_0_0).toLoadRect (harg14.unread xs0) = ps 2) (hps0_3 : View.readAt (Elt F) arg14.view (Rect.unit (s := S16x512x512) ![3, 0, 0] S1x512x512.size inb_S16x512x512_S1x512x512_3_0_0).toLoadRect (harg14.unread xs0) = ps 3) (hps0_4 : View.readAt (Elt F) arg14.view (Rect.unit (s := S16x512x512) ![4, 0, 0] S1x512x512.size inb_S16x512x512_S1x512x512_4_0_0).toLoadRect (harg14.unread xs0) = ps 4) (hps0_5 : View.readAt (Elt F) arg14.view (Rect.unit (s := S16x512x512) ![5, 0, 0] S1x512x512.size inb_S16x512x512_S1x512x512_5_0_0).toLoadRect (harg14.unread xs0) = ps 5) (hps0_6 : View.readAt (Elt F) arg14.view (Rect.unit (s := S16x512x512) ![6, 0, 0] S1x512x512.size inb_S16x512x512_S1x512x512_6_0_0).toLoadRect (harg14.unread xs0) = ps 6) (hps0_7 : View.readAt (Elt F) arg14.view (Rect.unit (s := S16x512x512) ![7, 0, 0] S1x512x512.size inb_S16x512x512_S1x512x512_7_0_0).toLoadRect (harg14.unread xs0) = ps 7) (hps0_8 : View.readAt (Elt F) arg14.view (Rect.unit (s := S16x512x512) ![8, 0, 0] S1x512x512.size inb_S16x512x512_S1x512x512_8_0_0).toLoadRect (harg14.unread xs0) = ps 8) (hps0_9 : View.readAt (Elt F) arg14.view (Rect.unit (s := S16x512x512) ![9, 0, 0] S1x512x512.size inb_S16x512x512_S1x512x512_9_0_0).toLoadRect (harg14.unread xs0) = ps 9) (hps0_10 : View.readAt (Elt F) arg14.view (Rect.unit (s := S16x512x512) ![10, 0, 0] S1x512x512.size inb_S16x512x512_S1x512x512_10_0_0).toLoadRect (harg14.unread xs0) = ps 10) (hps0_11 : View.readAt (Elt F) arg14.view (Rect.unit (s := S16x512x512) ![11, 0, 0] S1x512x512.size inb_S16x512x512_S1x512x512_11_0_0).toLoadRect (harg14.unread xs0) = ps 11) (hps0_12 : View.readAt (Elt F) arg14.view (Rect.unit (s := S16x512x512) ![12, 0, 0] S1x512x512.size inb_S16x512x512_S1x512x512_12_0_0).toLoadRect (harg14.unread xs0) = ps 12) (hps0_13 : View.readAt (Elt F) arg14.view (Rect.unit (s := S16x512x512) ![13, 0, 0] S1x512x512.size inb_S16x512x512_S1x512x512_13_0_0).toLoadRect (harg14.unread xs0) = ps 13) (hps0_14 : View.readAt (Elt F) arg14.view (Rect.unit (s := S16x512x512) ![14, 0, 0] S1x512x512.size inb_S16x512x512_S1x512x512_14_0_0).toLoadRect (harg14.unread xs0) = ps 14) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (arg14.view.loc (c : Thread nD τ) ↦[arg14.view.set]{fullShare} arg14.view.writes (Elt F) (harg14.unread xs0) LS0) ∗ (∃ f, arg15.view.loc (c : Thread nD τ) ↦[arg15.view.set]{fullShare} arg15.view.writes (Elt F) f LS1)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun xs0 hps0_0 hps0_1 hps0_2 hps0_3 hps0_4 hps0_5 hps0_6 hps0_7 hps0_8 hps0_9 hps0_10 hps0_11 hps0_12 hps0_13 hps0_14 E K => ?run⟩
  case run =>
    letI : ClosedOff (k0_off1 i) := ⟨![15, 0, 0], hl0⟩
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0; obtain rfl := harg15.eq_unread hfs1
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexact HS0
    iexists _; iexact HS1

end Cert.Kernel.Run

end
-- ==== Proof.Bits.Run.lean ====
/- The pipelined kernel's frame, with what its outputs hold: the hidden scratch holds the slices of the chunks met so far of
   the current row tile, the maxima scratch their running maxima; the outputs are stored on the last chunk. -/
module

public import proofs.«01_k».proof.Proof.Bits.RunB
public import Idealize.ShloMosaic.Lib.WritesUnit
public import Idealize.ShloMosaic.Lib.WholeRead
public import Idealize.ShloMosaic.Lib.VecWindow
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point adds to the two scratch buffers -/

/-- The slice of the hidden tile a point computes from its blocks. -/
def hidOf (x0 : Vec F S1x512x5120 .bf16) (x1 : Vec F S32x128x512 .fp8e4m3) (x2 : Vec F S32x32x512 .fp8e4m3) (x3 : Vec F S1x512 .f32) (x4 : Vec F S1x512 .f32) : Vec F S1x512x512 .f32 :=
  k0_pay98 (View.ld (Val := Elt F) x0 (Rect.unit (s := S1x512x5120) ![0, 0, 0] S1x512x4096.size inb_S1x512x5120_S1x512x4096_0_0_0)) (View.ld (Val := Elt F) x1 (Rect.unit (s := S32x128x512) ![0, 0, 0] S32x128x512.size inb_S32x128x512_S32x128x512_0_0_0)) (View.ld (Val := Elt F) x0 (Rect.unit (s := S1x512x5120) ![0, 0, 4096] S1x512x1024.size inb_S1x512x5120_S1x512x1024_0_0_4096)) (View.ld (Val := Elt F) x2 (Rect.unit (s := S32x32x512) ![0, 0, 0] S32x32x512.size inb_S32x32x512_S32x32x512_0_0_0)) (View.ld (Val := Elt F) x3 (Rect.unit (s := S1x512) ![0, 0] S1x512.size inb_S1x512_S1x512_0_0)) (View.ld (Val := Elt F) x4 (Rect.unit (s := S1x512) ![0, 0] S1x512.size inb_S1x512_S1x512_0_0))
/-- The running maxima after a point, from its blocks and the maxima before it. -/
def mxOf (j : ℕ) (x0 : Vec F S1x512x5120 .bf16) (x1 : Vec F S32x128x512 .fp8e4m3) (x2 : Vec F S32x32x512 .fp8e4m3) (x3 : Vec F S1x512 .f32) (x4 : Vec F S1x512 .f32) (xs1 : Vec F S512x128 .f32) : Vec F S512x128 .f32 :=
  k0_pay1 (BitVec.ofNat 32 j) (k0_pay99 (View.ld (Val := Elt F) x0 (Rect.unit (s := S1x512x5120) ![0, 0, 0] S1x512x4096.size inb_S1x512x5120_S1x512x4096_0_0_0)) (View.ld (Val := Elt F) x1 (Rect.unit (s := S32x128x512) ![0, 0, 0] S32x128x512.size inb_S32x128x512_S32x128x512_0_0_0)) (View.ld (Val := Elt F) x0 (Rect.unit (s := S1x512x5120) ![0, 0, 4096] S1x512x1024.size inb_S1x512x5120_S1x512x1024_0_0_4096)) (View.ld (Val := Elt F) x2 (Rect.unit (s := S32x32x512) ![0, 0, 0] S32x32x512.size inb_S32x32x512_S32x32x512_0_0_0)) (View.ld (Val := Elt F) x3 (Rect.unit (s := S1x512) ![0, 0] S1x512.size inb_S1x512_S1x512_0_0)) (View.ld (Val := Elt F) x4 (Rect.unit (s := S1x512) ![0, 0] S1x512.size inb_S1x512_S1x512_0_0))) (k0_pay100 (View.ld (Val := Elt F) x0 (Rect.unit (s := S1x512x5120) ![0, 0, 0] S1x512x4096.size inb_S1x512x5120_S1x512x4096_0_0_0)) (View.ld (Val := Elt F) x1 (Rect.unit (s := S32x128x512) ![0, 0, 0] S32x128x512.size inb_S32x128x512_S32x128x512_0_0_0)) (View.ld (Val := Elt F) x0 (Rect.unit (s := S1x512x5120) ![0, 0, 4096] S1x512x1024.size inb_S1x512x5120_S1x512x1024_0_0_4096)) (View.ld (Val := Elt F) x2 (Rect.unit (s := S32x32x512) ![0, 0, 0] S32x32x512.size inb_S32x32x512_S32x32x512_0_0_0)) (View.ld (Val := Elt F) x3 (Rect.unit (s := S1x512) ![0, 0] S1x512.size inb_S1x512_S1x512_0_0)) (View.ld (Val := Elt F) x4 (Rect.unit (s := S1x512) ![0, 0] S1x512.size inb_S1x512_S1x512_0_0))) (k0_pay101 (View.ld (Val := Elt F) x0 (Rect.unit (s := S1x512x5120) ![0, 0, 0] S1x512x4096.size inb_S1x512x5120_S1x512x4096_0_0_0)) (View.ld (Val := Elt F) x1 (Rect.unit (s := S32x128x512) ![0, 0, 0] S32x128x512.size inb_S32x128x512_S32x128x512_0_0_0)) (View.ld (Val := Elt F) x0 (Rect.unit (s := S1x512x5120) ![0, 0, 4096] S1x512x1024.size inb_S1x512x5120_S1x512x1024_0_0_4096)) (View.ld (Val := Elt F) x2 (Rect.unit (s := S32x32x512) ![0, 0, 0] S32x32x512.size inb_S32x32x512_S32x32x512_0_0_0)) (View.ld (Val := Elt F) x3 (Rect.unit (s := S1x512) ![0, 0] S1x512.size inb_S1x512_S1x512_0_0)) (View.ld (Val := Elt F) x4 (Rect.unit (s := S1x512) ![0, 0] S1x512.size inb_S1x512_S1x512_0_0))) (View.ld (Val := Elt F) xs1 (Rect.unit (s := S512x128) ![0, 0] S512x128.size inb_S512x128_S512x128_0_0))

/-- On the first chunk the maxima do not depend on what the scratch held. -/
theorem mxOf_zero (x0 : Vec F S1x512x5120 .bf16) (x1 : Vec F S32x128x512 .fp8e4m3) (x2 : Vec F S32x32x512 .fp8e4m3) (x3 : Vec F S1x512 .f32) (x4 : Vec F S1x512 .f32) (xs1 xs1' : Vec F S512x128 .f32) :
    mxOf 0 x0 x1 x2 x3 x4 xs1 = mxOf 0 x0 x1 x2 x3 x4 xs1' := by
  unfold mxOf k0_pay1
  have h : Scalar.cmpi .eq (BitVec.ofNat 32 0) 0#32 = 1#1 := by decide
  have hs : ∀ (a b : FVec F S512x128 .f32), Scalar.select 1#1 a b = a := fun _ _ => rfl
  simp only [h, hs]

/-- Point number `n` of the grid. -/
def pt (n : ℕ) : Fin cfg0.N := ⟨n % 768, lt_of_lt_of_eq (Nat.mod_lt _ (by decide)) N_0.symm⟩
/-- The point with the number of point `t` is `t`. -/
theorem pt_val (t : Fin cfg0.N) : pt t.val = t := Fin.ext (Nat.mod_eq_of_lt (lt_of_lt_of_eq t.isLt N_0))

/-- The hidden slice of point `t`. -/
def hidAt (c : Dev nD) (t : Fin cfg0.N) : Vec F S1x512x512 .f32 := hidOf (iblk m c 0 t) (X0_1 m c t) (iblk m c 2 t) (iblk m c 3 t) (iblk m c 4 t)
/-- The maxima before point `n`. -/
def mxAt (c : Dev nD) : ℕ → Vec F S512x128 .f32
  | 0 => scM0_1.view.read (Elt F) scM0_1.view.junk
  | n + 1 => mxOf (n % 16) (iblk m c 0 (pt n)) (X0_1 m c (pt n)) (iblk m c 2 (pt n)) (iblk m c 3 (pt n)) (iblk m c 4 (pt n)) (mxAt c n)
/-- The hidden slices of the row tile point `t` is in. -/
def slAt (c : Dev nD) (t : Fin cfg0.N) (k : ℕ) : Vec F S1x512x512 .f32 := hidAt m c (pt (16 * (t.val / 16) + k))

/-! ## The runs at a point -/

/-- The body's run at a point before the last chunk. -/
abbrev runA (c : Dev nD) (t : Fin cfg0.N) (h : ¬t.val % 16 = 15) (xs1 : Vec F S512x128 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun hc => h ((hcond0_0 t).mp hc)) (iblk m c 0 t) (X0_1 m c t) (iblk m c 2 t) (iblk m c 3 t) (iblk m c 4 t) (iblk m c 5 t) (iblk m c 6 t) (iblk m c 7 t) xs1
/-- The body's run at the last chunk of a row tile. -/
abbrev runB (c : Dev nD) (t : Fin cfg0.N) (h : t.val % 16 = 15) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h) (hoff0_last t h) (iblk m c 0 t) (X0_1 m c t) (iblk m c 2 t) (iblk m c 3 t) (iblk m c 4 t) (iblk m c 5 t) (iblk m c 6 t) (iblk m c 7 t) (mxAt m c t.val) (slAt m c t)

/-- Before the last chunk the hidden scratch gets the point's slice. -/
theorem runA_LS0 (c : Dev nD) (t : Fin cfg0.N) (h : ¬t.val % 16 = 15) (xs1 : Vec F S512x128 .f32) :
    ∃ inb, (runA m c t h xs1).1 = [⟨Rect.unit (s := S16x512x512) (k0_off1 (grid0.coords t)) S1x512x512.size inb, hidAt m c t⟩] := by
  refine ⟨?_, ?_⟩
  · rw [hoff0 t]
    have : t.val % 16 < 16 := Nat.mod_lt _ (by decide)
    intro a
    fin_cases a
    · show t.val % 16 + 1 ≤ 16; omega
    · show 0 + 512 ≤ 512; omega
    · show 0 + 512 ≤ 512; omega
  · show [_] = [_]
    unfold hidAt hidOf
    simp only [View.readAt_eq_ld, Memref.IsWhole.read_unread]
    try rfl

/-- Before the last chunk the maxima scratch gets the new maxima. -/
theorem runA_LS1 (c : Dev nD) (t : Fin cfg0.N) (h : ¬t.val % 16 = 15) (xs1 : Vec F S512x128 .f32) :
    (runA m c t h xs1).2.1 = [⟨Rect.unit (s := S512x128) ![0, 0] S512x128.size inb_S512x128_S512x128_0_0, mxOf ((grid0.coords t) 1).val (iblk m c 0 t) (X0_1 m c t) (iblk m c 2 t) (iblk m c 3 t) (iblk m c 4 t) xs1⟩] := by
  show [_] = [_]
  unfold mxOf kernelRun0_A.sl.r kernelRun0_A.sl.r_1 kernelRun0_A.sl.r_2
  have hw : View.read (Elt F) (View.whole cc0_scratch1) ((Memref.isWhole_whole cc0_scratch1).unread xs1) = xs1 := (Memref.isWhole_whole cc0_scratch1).read_unread xs1
  simp only [View.readAt_eq_ld, Memref.IsWhole.read_unread]
  rw [hw]
  try rfl

/-- A point's second coordinate is its chunk. -/
theorem coord1 : ∀ t : Fin cfg0.N, ((grid0.coords t) 1).val = t.val % 16 := by decide +kernel

/-! ## The invariant -/

/-- What the two scratch buffers hold before point `n`: inside a row tile, the maxima so far and the slices so far. -/
def Inv (c : Dev nD) (n : ℕ) (h : Vec F S16x512x512 .f32) (mx : Vec F S512x128 .f32) : Prop :=
  (n % 16 ≠ 0 → mx = mxAt m c n) ∧
    ∀ (k : ℕ) (inb : ∀ a, (![k, 0, 0] : Fin 3 → ℕ) a + S1x512x512.size a ≤ S16x512x512.size a), k < n % 16 →
      View.ld (Val := Elt F) h (Rect.unit (s := S16x512x512) ![k, 0, 0] S1x512x512.size inb) = hidAt m c (pt (16 * (n / 16) + k))

/-- At the start of a row tile anything will do. -/
theorem inv_start (c : Dev nD) (n : ℕ) (hn : n % 16 = 0) (h : Vec F S16x512x512 .f32) (mx : Vec F S512x128 .f32) : Inv m c n h mx :=
  ⟨fun h' => absurd hn h', fun k _ hk => by omega⟩

/-- The maxima the body stores at `t` are those before the next point. -/
theorem mx_step (c : Dev nD) (t : Fin cfg0.N) (mx : Vec F S512x128 .f32) (hmx : t.val % 16 ≠ 0 → mx = mxAt m c t.val) :
    mxOf ((grid0.coords t) 1).val (iblk m c 0 t) (X0_1 m c t) (iblk m c 2 t) (iblk m c 3 t) (iblk m c 4 t) mx = mxAt m c (t.val + 1) := by
  show _ = mxOf (t.val % 16) (iblk m c 0 (pt t.val)) (X0_1 m c (pt t.val)) (iblk m c 2 (pt t.val)) (iblk m c 3 (pt t.val)) (iblk m c 4 (pt t.val)) (mxAt m c t.val)
  rw [coord1 t, pt_val t]
  by_cases h : t.val % 16 = 0
  · rw [h]; exact mxOf_zero _ _ _ _ _ _ _
  · rw [hmx h]

/-- Storing a point's slice and maxima keeps the invariant. -/
theorem inv_step (c : Dev nD) (t : Fin cfg0.N) (ht : ¬t.val % 16 = 15) (h : Vec F S16x512x512 .f32) (mx : Vec F S512x128 .f32) (hI : Inv m c t.val h mx) :
    Inv m c (t.val + 1) (scM0_0.view.read (Elt F) (scM0_0.view.writes (Elt F) ((Memref.isWhole_whole cc0_scratch0).unread h) (runA m c t ht mx).1))
      (mxAt m c (t.val + 1)) := by
  obtain ⟨inb0, e0⟩ := runA_LS0 m c t ht mx
  refine ⟨fun _ => rfl, fun k inb hk => ?_⟩
  have hoff : k0_off1 (grid0.coords t) = ![t.val % 16, 0, 0] := hoff0 t
  rw [e0]
  have h16 : (t.val + 1) / 16 = t.val / 16 := by omega
  rw [h16]
  by_cases hkt : k = t.val % 16
  · have hp : pt (16 * (t.val / 16) + k) = t := by rw [hkt, Nat.div_add_mod]; exact pt_val t
    rw [hp]
    funext x
    refine View.read_writes_cons_unit_of_mem scM0_0.view _ inb0 _ [] _ x hoff fun a => ?_
    rw [← hkt]; exact congrArg _ (Nat.one_mul _)
  · have hlt : k < t.val % 16 := by omega
    rw [← hI.2 k inb hlt]
    funext x
    refine (View.read_writes_cons_unit_of_not_mem scM0_0.view _ inb0 _ [] _ hoff (0 : Fin 3) (.inl ?_)).trans ?_
    · show k + 1 * (x 0).val < t.val % 16
      have : (x 0).val < 1 := (x 0).isLt
      omega
    · exact congrFun ((Memref.isWhole_whole cc0_scratch0).read_unread h) _
/-- On the last chunk the pieces stored into output 8 tile its block. -/
theorem cover0_8 (c : Dev nD) (t : Fin cfg0.N) (h : t.val % 16 = 15) (y : S1x1x512x8192.Idx) :
    ∃ pc ∈ (runB m c t h).1, y ∈ pc.1.set :=
  View.cover_of_tiledL (runB m c t h).1 S1x1x512x512.size (by sl_kernel_rfl) y
/-- On the last chunk the pieces stored into output 9 tile its block. -/
theorem cover0_9 (c : Dev nD) (t : Fin cfg0.N) (h : t.val % 16 = 15) (y : S1x1x1x512.Idx) :
    ∃ pc ∈ (runB m c t h).2.1, y ∈ pc.1.set :=
  View.cover_of_tiledL (runB m c t h).2.1 S1x1x1x512.size (by sl_kernel_rfl) y
/-- On the last chunk the pieces stored into output 10 tile its block. -/
theorem cover0_10 (c : Dev nD) (t : Fin cfg0.N) (h : t.val % 16 = 15) (y : S1x1x160x512.Idx) :
    ∃ pc ∈ (runB m c t h).2.2.1, y ∈ pc.1.set :=
  View.cover_of_tiledL (runB m c t h).2.2.1 S1x1x160x512.size (by sl_kernel_rfl) y
/-- On the last chunk the pieces stored into output 11 tile its block. -/
theorem cover0_11 (c : Dev nD) (t : Fin cfg0.N) (h : t.val % 16 = 15) (y : S1x1x1x512.Idx) :
    ∃ pc ∈ (runB m c t h).2.2.2.1, y ∈ pc.1.set :=
  View.cover_of_tiledL (runB m c t h).2.2.2.1 S1x1x1x512.size (by sl_kernel_rfl) y
/-! ## The proof data -/
/-- What point `t` leaves in output 8's staging buffer: on the last chunk the pieces stored (elsewhere it is idle). -/
def out0_8 (c : Dev nD) (t : Fin cfg0.N) : Vec F S1x1x512x8192 .fp8e4m3 :=
  if h : t.val % 16 = 15 then VO0_8.read (Elt F) (VO0_8.writes (Elt F) VO0_8.junk (runB m c t h).1) else VO0_8.read (Elt F) VO0_8.junk
/-- On the last chunk, output 8's staging buffer holds the pieces that the body stored. -/
theorem out0_8_last (c : Dev nD) (t : Fin cfg0.N) (h : t.val % 16 = 15) :
    out0_8 m c t = VO0_8.read (Elt F) (VO0_8.writes (Elt F) VO0_8.junk (runB m c t h).1) := dif_pos h
/-- What point `t` leaves in output 9's staging buffer: on the last chunk the pieces stored (elsewhere it is idle). -/
def out0_9 (c : Dev nD) (t : Fin cfg0.N) : Vec F S1x1x1x512 .f32 :=
  if h : t.val % 16 = 15 then VO0_9.read (Elt F) (VO0_9.writes (Elt F) VO0_9.junk (runB m c t h).2.1) else VO0_9.read (Elt F) VO0_9.junk
/-- On the last chunk, output 9's staging buffer holds the pieces that the body stored. -/
theorem out0_9_last (c : Dev nD) (t : Fin cfg0.N) (h : t.val % 16 = 15) :
    out0_9 m c t = VO0_9.read (Elt F) (VO0_9.writes (Elt F) VO0_9.junk (runB m c t h).2.1) := dif_pos h
/-- What point `t` leaves in output 10's staging buffer: on the last chunk the pieces stored (elsewhere it is idle). -/
def out0_10 (c : Dev nD) (t : Fin cfg0.N) : Vec F S1x1x160x512 .fp8e4m3 :=
  if h : t.val % 16 = 15 then VO0_10.read (Elt F) (VO0_10.writes (Elt F) VO0_10.junk (runB m c t h).2.2.1) else VO0_10.read (Elt F) VO0_10.junk
/-- On the last chunk, output 10's staging buffer holds the pieces that the body stored. -/
theorem out0_10_last (c : Dev nD) (t : Fin cfg0.N) (h : t.val % 16 = 15) :
    out0_10 m c t = VO0_10.read (Elt F) (VO0_10.writes (Elt F) VO0_10.junk (runB m c t h).2.2.1) := dif_pos h
/-- What point `t` leaves in output 11's staging buffer: on the last chunk the pieces stored (elsewhere it is idle). -/
def out0_11 (c : Dev nD) (t : Fin cfg0.N) : Vec F S1x1x1x512 .f32 :=
  if h : t.val % 16 = 15 then VO0_11.read (Elt F) (VO0_11.writes (Elt F) VO0_11.junk (runB m c t h).2.2.2.1) else VO0_11.read (Elt F) VO0_11.junk
/-- On the last chunk, output 11's staging buffer holds the pieces that the body stored. -/
theorem out0_11_last (c : Dev nD) (t : Fin cfg0.N) (h : t.val % 16 = 15) :
    out0_11 m c t = VO0_11.read (Elt F) (VO0_11.writes (Elt F) VO0_11.junk (runB m c t h).2.2.2.1) := dif_pos h
/-- The region invariant before point `n`: the two scratch buffers at contents the invariant describes, the generator register at some state. -/
def PhiS (c : Dev nD) (n : ℕ) : sProp 𝕄 :=
  iprop(∃ h mx, ⌜Inv m c n h mx⌝ ∗ iprop(owns (c : Thread nD τ) scM0_0 fullShare h ∗ owns (c : Thread nD τ) scM0_1 fullShare mx) ∗ (∃ r, prngReg c r))

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 m c t
    | ⟨9, _⟩ => out0_9 m c t
    | ⟨10, _⟩ => out0_10 m c t
    | ⟨11, _⟩ => out0_11 m c t
  Φ t := PhiS m c t.val
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]
/-- The invariant before point `t` is `PhiS` at its number. -/
theorem PhiS_castSucc (c : Dev nD) (t : Fin cfg0.N) : (dats m 0 c).Φ t.castSucc = PhiS m c t.val := by
  dsimp only [dats]; rfl
/-- What window 0 holds after point `t`, as the proof data say. -/
theorem after0_0 (c : Dev nD) (t : Fin cfg0.N) : (dats m 0 c).after 0 t = iblk m c 0 t := by dsimp only [dats]; try rfl
/-- What window 1 holds after point `t`, as the proof data say. -/
theorem after0_1 (c : Dev nD) (t : Fin cfg0.N) : (dats m 0 c).after 1 t = X0_1 m c t := by dsimp only [dats]; try rfl
/-- What window 2 holds after point `t`, as the proof data say. -/
theorem after0_2 (c : Dev nD) (t : Fin cfg0.N) : (dats m 0 c).after 2 t = iblk m c 2 t := by dsimp only [dats]; try rfl
/-- What window 3 holds after point `t`, as the proof data say. -/
theorem after0_3 (c : Dev nD) (t : Fin cfg0.N) : (dats m 0 c).after 3 t = iblk m c 3 t := by dsimp only [dats]; try rfl
/-- What window 4 holds after point `t`, as the proof data say. -/
theorem after0_4 (c : Dev nD) (t : Fin cfg0.N) : (dats m 0 c).after 4 t = iblk m c 4 t := by dsimp only [dats]; try rfl
/-- What window 5 holds after point `t`, as the proof data say. -/
theorem after0_5 (c : Dev nD) (t : Fin cfg0.N) : (dats m 0 c).after 5 t = iblk m c 5 t := by dsimp only [dats]; try rfl
/-- What window 6 holds after point `t`, as the proof data say. -/
theorem after0_6 (c : Dev nD) (t : Fin cfg0.N) : (dats m 0 c).after 6 t = iblk m c 6 t := by dsimp only [dats]; try rfl
/-- What window 7 holds after point `t`, as the proof data say. -/
theorem after0_7 (c : Dev nD) (t : Fin cfg0.N) : (dats m 0 c).after 7 t = iblk m c 7 t := by dsimp only [dats]; try rfl
/-- What window 8 holds after point `t`, as the proof data say. -/
theorem after0_8 (c : Dev nD) (t : Fin cfg0.N) : (dats m 0 c).after 8 t = out0_8 m c t := by dsimp only [dats]; try rfl
/-- What window 9 holds after point `t`, as the proof data say. -/
theorem after0_9 (c : Dev nD) (t : Fin cfg0.N) : (dats m 0 c).after 9 t = out0_9 m c t := by dsimp only [dats]; try rfl
/-- What window 10 holds after point `t`, as the proof data say. -/
theorem after0_10 (c : Dev nD) (t : Fin cfg0.N) : (dats m 0 c).after 10 t = out0_10 m c t := by dsimp only [dats]; try rfl
/-- What window 11 holds after point `t`, as the proof data say. -/
theorem after0_11 (c : Dev nD) (t : Fin cfg0.N) : (dats m 0 c).after 11 t = out0_11 m c t := by dsimp only [dats]; try rfl
/-- Input 0 holds its block before point `t`. -/
theorem before0_0 (c : Dev nD) (t : Fin cfg0.N) (d) : (dats m 0 c).before 0 t d = iblk m c 0 t :=
  before0_0_of m (dats m 0 c) (A_eq m c 0) (after0_0 m c) t d
/-- Input 1 holds its block before point `t`. -/
theorem before0_1 (c : Dev nD) (t : Fin cfg0.N) (d) : (dats m 0 c).before 1 t d = X0_1 m c t :=
  before0_1_of m (dats m 0 c) (A_eq m c 1) (after0_1 m c) t d
/-- Input 2 holds its block before point `t`. -/
theorem before0_2 (c : Dev nD) (t : Fin cfg0.N) (d) : (dats m 0 c).before 2 t d = iblk m c 2 t :=
  before0_2_of m (dats m 0 c) (A_eq m c 2) (after0_2 m c) t d
/-- Input 3 holds its block before point `t`. -/
theorem before0_3 (c : Dev nD) (t : Fin cfg0.N) (d) : (dats m 0 c).before 3 t d = iblk m c 3 t :=
  before0_3_of m (dats m 0 c) (A_eq m c 3) (after0_3 m c) t d
/-- Input 4 holds its block before point `t`. -/
theorem before0_4 (c : Dev nD) (t : Fin cfg0.N) (d) : (dats m 0 c).before 4 t d = iblk m c 4 t :=
  before0_4_of m (dats m 0 c) (A_eq m c 4) (after0_4 m c) t d
/-- Input 5 holds its block before point `t`. -/
theorem before0_5 (c : Dev nD) (t : Fin cfg0.N) (d) : (dats m 0 c).before 5 t d = iblk m c 5 t :=
  before0_5_of m (dats m 0 c) (A_eq m c 5) (after0_5 m c) t d
/-- Input 6 holds its block before point `t`. -/
theorem before0_6 (c : Dev nD) (t : Fin cfg0.N) (d) : (dats m 0 c).before 6 t d = iblk m c 6 t :=
  before0_6_of m (dats m 0 c) (A_eq m c 6) (after0_6 m c) t d
/-- Input 7 holds its block before point `t`. -/
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 14400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) from rfl, PhiS_castSucc m c t]
  unfold PhiS
  by_cases h0 : t.val % 16 = 15
  · have hc := (hcond0_0 t).mpr h0
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t hc], after0_8, out0_8_last m c t h0]
    rw [show (dats m 0 c).leavesExact 9 t = owns (c : Thread nD τ) (ms0_9 t) fullShare ((dats m 0 c).after 9 t) from by
      unfold Dat.leavesExact; rw [liveAt0_9 t hc], after0_9, out0_9_last m c t h0]
    rw [show (dats m 0 c).leavesExact 10 t = owns (c : Thread nD τ) (ms0_10 t) fullShare ((dats m 0 c).after 10 t) from by
      unfold Dat.leavesExact; rw [liveAt0_10 t hc], after0_10, out0_10_last m c t h0]
    rw [show (dats m 0 c).leavesExact 11 t = owns (c : Thread nD τ) (ms0_11 t) fullShare ((dats m 0 c).after 11 t) from by
      unfold Dat.leavesExact; rw [liveAt0_11 t hc], after0_11, out0_11_last m c t h0]
    iintro ⟨⟨%h, %mx, %hI, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hmx : mx = mxAt m c t.val := hI.1 (by omega)
    subst hmx
    have e0 : View.readAt (Elt F) scM0_0.view (Rect.unit (s := S16x512x512) ![0, 0, 0] S1x512x512.size inb_S16x512x512_S1x512x512_0_0_0).toLoadRect ((Memref.isWhole_whole cc0_scratch0).unread h) = slAt m c t 0 := by
      rw [View.readAt_eq_ld, Memref.IsWhole.read_unread]; exact hI.2 0 _ (by omega)
    have e1 : View.readAt (Elt F) scM0_0.view (Rect.unit (s := S16x512x512) ![1, 0, 0] S1x512x512.size inb_S16x512x512_S1x512x512_1_0_0).toLoadRect ((Memref.isWhole_whole cc0_scratch0).unread h) = slAt m c t 1 := by
      rw [View.readAt_eq_ld, Memref.IsWhole.read_unread]; exact hI.2 1 _ (by omega)
    have e2 : View.readAt (Elt F) scM0_0.view (Rect.unit (s := S16x512x512) ![2, 0, 0] S1x512x512.size inb_S16x512x512_S1x512x512_2_0_0).toLoadRect ((Memref.isWhole_whole cc0_scratch0).unread h) = slAt m c t 2 := by
      rw [View.readAt_eq_ld, Memref.IsWhole.read_unread]; exact hI.2 2 _ (by omega)
    have e3 : View.readAt (Elt F) scM0_0.view (Rect.unit (s := S16x512x512) ![3, 0, 0] S1x512x512.size inb_S16x512x512_S1x512x512_3_0_0).toLoadRect ((Memref.isWhole_whole cc0_scratch0).unread h) = slAt m c t 3 := by
      rw [View.readAt_eq_ld, Memref.IsWhole.read_unread]; exact hI.2 3 _ (by omega)
    have e4 : View.readAt (Elt F) scM0_0.view (Rect.unit (s := S16x512x512) ![4, 0, 0] S1x512x512.size inb_S16x512x512_S1x512x512_4_0_0).toLoadRect ((Memref.isWhole_whole cc0_scratch0).unread h) = slAt m c t 4 := by
      rw [View.readAt_eq_ld, Memref.IsWhole.read_unread]; exact hI.2 4 _ (by omega)
    have e5 : View.readAt (Elt F) scM0_0.view (Rect.unit (s := S16x512x512) ![5, 0, 0] S1x512x512.size inb_S16x512x512_S1x512x512_5_0_0).toLoadRect ((Memref.isWhole_whole cc0_scratch0).unread h) = slAt m c t 5 := by
      rw [View.readAt_eq_ld, Memref.IsWhole.read_unread]; exact hI.2 5 _ (by omega)
    have e6 : View.readAt (Elt F) scM0_0.view (Rect.unit (s := S16x512x512) ![6, 0, 0] S1x512x512.size inb_S16x512x512_S1x512x512_6_0_0).toLoadRect ((Memref.isWhole_whole cc0_scratch0).unread h) = slAt m c t 6 := by
      rw [View.readAt_eq_ld, Memref.IsWhole.read_unread]; exact hI.2 6 _ (by omega)
    have e7 : View.readAt (Elt F) scM0_0.view (Rect.unit (s := S16x512x512) ![7, 0, 0] S1x512x512.size inb_S16x512x512_S1x512x512_7_0_0).toLoadRect ((Memref.isWhole_whole cc0_scratch0).unread h) = slAt m c t 7 := by
      rw [View.readAt_eq_ld, Memref.IsWhole.read_unread]; exact hI.2 7 _ (by omega)
    have e8 : View.readAt (Elt F) scM0_0.view (Rect.unit (s := S16x512x512) ![8, 0, 0] S1x512x512.size inb_S16x512x512_S1x512x512_8_0_0).toLoadRect ((Memref.isWhole_whole cc0_scratch0).unread h) = slAt m c t 8 := by
      rw [View.readAt_eq_ld, Memref.IsWhole.read_unread]; exact hI.2 8 _ (by omega)
    have e9 : View.readAt (Elt F) scM0_0.view (Rect.unit (s := S16x512x512) ![9, 0, 0] S1x512x512.size inb_S16x512x512_S1x512x512_9_0_0).toLoadRect ((Memref.isWhole_whole cc0_scratch0).unread h) = slAt m c t 9 := by
      rw [View.readAt_eq_ld, Memref.IsWhole.read_unread]; exact hI.2 9 _ (by omega)
    have e10 : View.readAt (Elt F) scM0_0.view (Rect.unit (s := S16x512x512) ![10, 0, 0] S1x512x512.size inb_S16x512x512_S1x512x512_10_0_0).toLoadRect ((Memref.isWhole_whole cc0_scratch0).unread h) = slAt m c t 10 := by
      rw [View.readAt_eq_ld, Memref.IsWhole.read_unread]; exact hI.2 10 _ (by omega)
    have e11 : View.readAt (Elt F) scM0_0.view (Rect.unit (s := S16x512x512) ![11, 0, 0] S1x512x512.size inb_S16x512x512_S1x512x512_11_0_0).toLoadRect ((Memref.isWhole_whole cc0_scratch0).unread h) = slAt m c t 11 := by
      rw [View.readAt_eq_ld, Memref.IsWhole.read_unread]; exact hI.2 11 _ (by omega)
    have e12 : View.readAt (Elt F) scM0_0.view (Rect.unit (s := S16x512x512) ![12, 0, 0] S1x512x512.size inb_S16x512x512_S1x512x512_12_0_0).toLoadRect ((Memref.isWhole_whole cc0_scratch0).unread h) = slAt m c t 12 := by
      rw [View.readAt_eq_ld, Memref.IsWhole.read_unread]; exact hI.2 12 _ (by omega)
    have e13 : View.readAt (Elt F) scM0_0.view (Rect.unit (s := S16x512x512) ![13, 0, 0] S1x512x512.size inb_S16x512x512_S1x512x512_13_0_0).toLoadRect ((Memref.isWhole_whole cc0_scratch0).unread h) = slAt m c t 13 := by
      rw [View.readAt_eq_ld, Memref.IsWhole.read_unread]; exact hI.2 13 _ (by omega)
    have e14 : View.readAt (Elt F) scM0_0.view (Rect.unit (s := S16x512x512) ![14, 0, 0] S1x512x512.size inb_S16x512x512_S1x512x512_14_0_0).toLoadRect ((Memref.isWhole_whole cc0_scratch0).unread h) = slAt m c t 14 := by
      rw [View.readAt_eq_ld, Memref.IsWhole.read_unread]; exact hI.2 14 _ (by omega)
    iapply ((runB m c t h0).2.2.2.2.2.2 h e0 e1 e2 e3 e4 e5 e6 e7 e8 e9 e10 e11 e12 e13 e14 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, ⟨%e8, H8⟩, ⟨%e9, H9⟩, ⟨%e10, H10⟩, ⟨%e11, H11⟩, HS0, ⟨%es1, HS1⟩⟩
    isplitl [HS0 HS1 Hg]
    · iexists _, _
      isplitr
      · ipureintro; exact inv_start m c _ (by omega) (scM0_0.view.read (Elt F) (scM0_0.view.writes (Elt F) ((Memref.isWhole_whole cc0_scratch0).unread h) (runB m c t h0).2.2.2.2.1)) (scM0_1.view.read (Elt F) (scM0_1.view.writes (Elt F) es1 (runB m c t h0).2.2.2.2.2.1))
      isplitl [HS0 HS1]
      · isplitl [HS0]
        · unfold owns; iexists _; isplitr
          swap; · iexact HS0
          ipureintro; rfl
        unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_8 m c t h0)
    isplitl [H9]
    · unfold owns; iexists _; isplitr
      swap; · iexact H9
      ipureintro; exact View.read_writes_of_cover _ _ _ _ _ (cover0_9 m c t h0)
    isplitl [H10]
    · unfold owns; iexists _; isplitr
      swap; · iexact H10
      ipureintro; exact View.read_writes_of_cover _ _ _ _ _ (cover0_10 m c t h0)
    unfold owns; iexists _; isplitr
    swap; · iexact H11
    ipureintro; exact View.read_writes_of_cover _ _ _ _ _ (cover0_11 m c t h0)
  · have hc := fun hc => h0 ((hcond0_0 t).mp hc)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [Dat.leavesExact_idle (dats m 0 c) 8 t (idleAt0_8 t hc) (noFlush0_8 t hc)]
    rw [Dat.leavesExact_idle (dats m 0 c) 9 t (idleAt0_9 t hc) (noFlush0_9 t hc)]
    rw [Dat.leavesExact_idle (dats m 0 c) 10 t (idleAt0_10 t hc) (noFlush0_10 t hc)]
    rw [Dat.leavesExact_idle (dats m 0 c) 11 t (idleAt0_11 t hc) (noFlush0_11 t hc)]
    iintro ⟨⟨%h, %mx, %hI, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hI' := inv_step m c t h0 h mx hI
    have hm := mx_step m c t mx hI.1
    have e1 := runA_LS1 m c t h0 mx
    iapply ((runA m c t h0 mx).2.2 _ _ _ _ h Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    iintro ⟨H0, H1, H2, H3, H4, H5, H6, H7, H8, H9, H10, H11, HS0, ⟨%es1, HS1⟩⟩
    isplitl [HS0 HS1 Hg]
    · iexists _, _
      isplitr
      · ipureintro; exact hI'
      isplitl [HS0 HS1]
      · isplitl [HS0]
        · unfold owns; iexists _; isplitr
          swap; · iexact HS0
          ipureintro; rfl
        unfold owns; iexists _; isplitr
        swap; · iexact HS1
        ipureintro
        rw [e1, ← hm]
        exact View.read_writes_full _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexists _; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%dS0, HS0⟩, ⟨%dS1, HS1⟩⟩, Hg⟩
  iexists dS0, dS1
  isplitr
  · ipureintro; exact inv_start m c 0 rfl dS0 dS1
  isplitl [HS0 HS1]
  · isplitl [HS0]; · iexact HS0
    iexact HS1
  iexact Hg

/-- After the last point the invariant gives the region's rest back. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%dS0, %dS1, -, ⟨HS0, HS1⟩, Hg⟩
  isplitl [HS0 HS1]
  · isplitl [HS0]
    · iexists _; iexact HS0
    iexists _; iexact HS1
  iexact Hg

/-! ## The run and the frame -/

set_option backward.isDefEq.respectTransparency.types false in
/-- The run: every array of the pipeline ends at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Run

end
-- ==== Proof.Ideal.Points.lean ====
/- The points of the kernel's grid in closed form, its staging buffers and its two scratch buffers (the hidden tile `arg14`, the running maxima `arg15`). -/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The condition of the body's one `scf.if`, and where the outputs are idle -/

/-- The body's `scf.if` is taken on the last hidden chunk of a row tile. -/
abbrev cond0_0 (i : grid0.Coords) : Prop := k0_cond1 i = 1#1
/-- The condition holds exactly at the last of the sixteen points of a row tile. -/
theorem hcond0_0 : ∀ t : Fin cfg0.N, cond0_0 (grid0.coords t) ↔ t.val % 16 = 15 := by decide +kernel
/-- Input 0 is never idle. -/
theorem liveAt0_0 : ∀ t : Fin cfg0.N, cfg0.idle 0 (grid0.coords t) = false := fun _ => rfl
/-- Input 1 is never idle. -/
theorem liveAt0_1 : ∀ t : Fin cfg0.N, cfg0.idle 1 (grid0.coords t) = false := fun _ => rfl
/-- Input 2 is never idle. -/
theorem liveAt0_2 : ∀ t : Fin cfg0.N, cfg0.idle 2 (grid0.coords t) = false := fun _ => rfl
/-- Input 3 is never idle. -/
theorem liveAt0_3 : ∀ t : Fin cfg0.N, cfg0.idle 3 (grid0.coords t) = false := fun _ => rfl
/-- Input 4 is never idle. -/
theorem liveAt0_4 : ∀ t : Fin cfg0.N, cfg0.idle 4 (grid0.coords t) = false := fun _ => rfl
/-- Input 5 is never idle. -/
theorem liveAt0_5 : ∀ t : Fin cfg0.N, cfg0.idle 5 (grid0.coords t) = false := fun _ => rfl
/-- Input 6 is never idle. -/
theorem liveAt0_6 : ∀ t : Fin cfg0.N, cfg0.idle 6 (grid0.coords t) = false := fun _ => rfl
/-- Input 7 is never idle. -/
theorem liveAt0_7 : ∀ t : Fin cfg0.N, cfg0.idle 7 (grid0.coords t) = false := fun _ => rfl
/-- Output 8 is idle, and not written back, before the last hidden chunk of a row tile; there it is live. -/
theorem idleAt0_8 : ∀ t : Fin cfg0.N, ¬cond0_0 (grid0.coords t) → cfg0.idle 8 (grid0.coords t) = true := by decide +kernel
/-- Output 8 is not written back before the last hidden chunk of a row tile. -/
theorem noFlush0_8 : ∀ t : Fin cfg0.N, ¬cond0_0 (grid0.coords t) → (cfg0.win 8).flush t = false := by decide +kernel
/-- Output 8 is live on the last hidden chunk of a row tile. -/
theorem liveAt0_8 : ∀ t : Fin cfg0.N, cond0_0 (grid0.coords t) → cfg0.idle 8 (grid0.coords t) = false := by decide +kernel
/-- Output 9 is idle, and not written back, before the last hidden chunk of a row tile; there it is live. -/
theorem idleAt0_9 : ∀ t : Fin cfg0.N, ¬cond0_0 (grid0.coords t) → cfg0.idle 9 (grid0.coords t) = true := by decide +kernel
/-- Output 9 is not written back before the last hidden chunk of a row tile. -/
theorem noFlush0_9 : ∀ t : Fin cfg0.N, ¬cond0_0 (grid0.coords t) → (cfg0.win 9).flush t = false := by decide +kernel
/-- Output 9 is live on the last hidden chunk of a row tile. -/
theorem liveAt0_9 : ∀ t : Fin cfg0.N, cond0_0 (grid0.coords t) → cfg0.idle 9 (grid0.coords t) = false := by decide +kernel
/-- Output 10 is idle, and not written back, before the last hidden chunk of a row tile; there it is live. -/
theorem idleAt0_10 : ∀ t : Fin cfg0.N, ¬cond0_0 (grid0.coords t) → cfg0.idle 10 (grid0.coords t) = true := by decide +kernel
/-- Output 10 is not written back before the last hidden chunk of a row tile. -/
theorem noFlush0_10 : ∀ t : Fin cfg0.N, ¬cond0_0 (grid0.coords t) → (cfg0.win 10).flush t = false := by decide +kernel
/-- Output 10 is live on the last hidden chunk of a row tile. -/
theorem liveAt0_10 : ∀ t : Fin cfg0.N, cond0_0 (grid0.coords t) → cfg0.idle 10 (grid0.coords t) = false := by decide +kernel
/-- Output 11 is idle, and not written back, before the last hidden chunk of a row tile; there it is live. -/
theorem idleAt0_11 : ∀ t : Fin cfg0.N, ¬cond0_0 (grid0.coords t) → cfg0.idle 11 (grid0.coords t) = true := by decide +kernel
/-- Output 11 is not written back before the last hidden chunk of a row tile. -/
theorem noFlush0_11 : ∀ t : Fin cfg0.N, ¬cond0_0 (grid0.coords t) → (cfg0.win 11).flush t = false := by decide +kernel
/-- Output 11 is live on the last hidden chunk of a row tile. -/
theorem liveAt0_11 : ∀ t : Fin cfg0.N, cond0_0 (grid0.coords t) → cfg0.idle 11 (grid0.coords t) = false := by decide +kernel

/-- The slice of the hidden tile a point stores: slice `t % 16`. -/
theorem hoff0 : ∀ t : Fin cfg0.N, k0_off1 (grid0.coords t) = ![t.val % 16, 0, 0] := by decide +kernel
/-- On the last hidden chunk of a row tile the slice stored is slice 15. -/
theorem hoff0_last (t : Fin cfg0.N) (h : t.val % 16 = 15) : k0_off1 (grid0.coords t) = ![15, 0, 0] := by rw [hoff0, h]

/-! ## Staging buffers and scratch -/

/-- One staging buffer of output window 8, through which its contents are stated. -/
abbrev VO0_8 : View sig .tc .vmem S1x1x512x8192 .fp8e4m3 := (Memref.whole cc0_stg8_0 : Memref sig .tc .vmem S1x1x512x8192 .fp8e4m3).view
/-- One staging buffer of output window 9, through which its contents are stated. -/
abbrev VO0_9 : View sig .tc .vmem S1x1x1x512 .f32 := (Memref.whole cc0_stg9_0 : Memref sig .tc .vmem S1x1x1x512 .f32).view
/-- One staging buffer of output window 10, through which its contents are stated. -/
abbrev VO0_10 : View sig .tc .vmem S1x1x160x512 .fp8e4m3 := (Memref.whole cc0_stg10_0 : Memref sig .tc .vmem S1x1x160x512 .fp8e4m3).view
/-- One staging buffer of output window 11, through which its contents are stated. -/
abbrev VO0_11 : View sig .tc .vmem S1x1x1x512 .f32 := (Memref.whole cc0_stg11_0 : Memref sig .tc .vmem S1x1x1x512 .f32).view
/-- Window 0's staging buffer at point `t`, and that it is a whole buffer. -/
abbrev ms0_0 (t : Fin cfg0.N) : Memref sig .tc .vmem S1x512x5120 .bf16 := win0_0.stage (cfg0.slots t 0)
abbrev hs0_0 (t : Fin cfg0.N) : (ms0_0 t).IsWhole := hstage0_0 ((cfg0.slots t 0).cast nbuf0_0)
/-- Window 1's staging buffer at point `t`, and that it is a whole buffer. -/
abbrev ms0_1 (t : Fin cfg0.N) : Memref sig .tc .vmem S32x128x512 .fp8e4m3 := win0_1.stage (cfg0.slots t 1)
abbrev hs0_1 (t : Fin cfg0.N) : (ms0_1 t).IsWhole := hstage0_1 ((cfg0.slots t 1).cast nbuf0_1)
/-- Window 2's staging buffer at point `t`, and that it is a whole buffer. -/
abbrev ms0_2 (t : Fin cfg0.N) : Memref sig .tc .vmem S32x32x512 .fp8e4m3 := win0_2.stage (cfg0.slots t 2)
abbrev hs0_2 (t : Fin cfg0.N) : (ms0_2 t).IsWhole := hstage0_2 ((cfg0.slots t 2).cast nbuf0_2)
/-- Window 3's staging buffer at point `t`, and that it is a whole buffer. -/
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
/-- Window 4's staging buffer at point `t`, and that it is a whole buffer. -/
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
/-- Window 5's staging buffer at point `t`, and that it is a whole buffer. -/
abbrev ms0_5 (t : Fin cfg0.N) : Memref sig .tc .vmem S160x8192 .fp8e4m3 := win0_5.stage (cfg0.slots t 5)
abbrev hs0_5 (t : Fin cfg0.N) : (ms0_5 t).IsWhole := hstage0_5 ((cfg0.slots t 5).cast nbuf0_5)
/-- Window 6's staging buffer at point `t`, and that it is a whole buffer. -/
abbrev ms0_6 (t : Fin cfg0.N) : Memref sig .tc .vmem S160x1 .f32 := win0_6.stage (cfg0.slots t 6)
abbrev hs0_6 (t : Fin cfg0.N) : (ms0_6 t).IsWhole := hstage0_6 ((cfg0.slots t 6).cast nbuf0_6)
/-- Window 7's staging buffer at point `t`, and that it is a whole buffer. -/
abbrev ms0_7 (t : Fin cfg0.N) : Memref sig .tc .vmem S160x1 .f32 := win0_7.stage (cfg0.slots t 7)
abbrev hs0_7 (t : Fin cfg0.N) : (ms0_7 t).IsWhole := hstage0_7 ((cfg0.slots t 7).cast nbuf0_7)
/-- Window 8's staging buffer at point `t`, and that it is a whole buffer. -/
abbrev ms0_8 (t : Fin cfg0.N) : Memref sig .tc .vmem S1x1x512x8192 .fp8e4m3 := win0_8.stage (cfg0.slots t 8)
abbrev hs0_8 (t : Fin cfg0.N) : (ms0_8 t).IsWhole := hstage0_8 ((cfg0.slots t 8).cast nbuf0_8)
/-- Window 9's staging buffer at point `t`, and that it is a whole buffer. -/
abbrev ms0_9 (t : Fin cfg0.N) : Memref sig .tc .vmem S1x1x1x512 .f32 := win0_9.stage (cfg0.slots t 9)
abbrev hs0_9 (t : Fin cfg0.N) : (ms0_9 t).IsWhole := hstage0_9 ((cfg0.slots t 9).cast nbuf0_9)
/-- Window 10's staging buffer at point `t`, and that it is a whole buffer. -/
abbrev ms0_10 (t : Fin cfg0.N) : Memref sig .tc .vmem S1x1x160x512 .fp8e4m3 := win0_10.stage (cfg0.slots t 10)
abbrev hs0_10 (t : Fin cfg0.N) : (ms0_10 t).IsWhole := hstage0_10 ((cfg0.slots t 10).cast nbuf0_10)
/-- Window 11's staging buffer at point `t`, and that it is a whole buffer. -/
abbrev ms0_11 (t : Fin cfg0.N) : Memref sig .tc .vmem S1x1x1x512 .f32 := win0_11.stage (cfg0.slots t 11)
abbrev hs0_11 (t : Fin cfg0.N) : (ms0_11 t).IsWhole := hstage0_11 ((cfg0.slots t 11).cast nbuf0_11)
/-- Scratch buffer 0. -/
abbrev scM0_0 : Memref sig .tc .vmem S16x512x512 .f32 := Memref.whole cc0_scratch0
/-- Scratch buffer 1. -/
abbrev scM0_1 : Memref sig .tc .vmem S512x128 .f32 := Memref.whole cc0_scratch1

/-- What the launch hands the region beside the windows: the two scratch buffers at anything, the generator register at
    some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.Ideal.RunA.lean ====
/- The kernel's body as one run, before the last hidden chunk of a row tile: it stores its slice of the hidden tile and updates the running maxima. -/
module

public import proofs.«01_k».proof.Proof.Ideal.Points
public import proofs.«01_k».proof.Proof.Gen.KernelIdeal.Skeleton

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body before the last chunk: from the inputs at `x·`, the outputs at `xi·`, the hidden tile at `xs0` and the maxima at `xs1`, it
    ends with the inputs and outputs as they were and with the pieces `LS0`, `LS1` stored over the two scratch buffers. -/
noncomputable def kernelRun0_A (c : Dev nD) (i : grid0.Coords) (arg2 : Memref sig .tc .vmem S1x512x5120 .bf16) (harg2 : arg2.IsWhole) (arg3 : Memref sig .tc .vmem S32x128x512 .fp8e4m3) (harg3 : arg3.IsWhole) (arg4 : Memref sig .tc .vmem S32x32x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S160x8192 .fp8e4m3) (harg7 : arg7.IsWhole) (arg8 : Memref sig .tc .vmem S160x1 .f32) (harg8 : arg8.IsWhole) (arg9 : Memref sig .tc .vmem S160x1 .f32) (harg9 : arg9.IsWhole) (arg10 : Memref sig .tc .vmem S1x1x512x8192 .fp8e4m3) (harg10 : arg10.IsWhole) (arg11 : Memref sig .tc .vmem S1x1x1x512 .f32) (harg11 : arg11.IsWhole) (arg12 : Memref sig .tc .vmem S1x1x160x512 .fp8e4m3) (harg12 : arg12.IsWhole) (arg13 : Memref sig .tc .vmem S1x1x1x512 .f32) (harg13 : arg13.IsWhole) (arg14 : Memref sig .tc .vmem S16x512x512 .f32) (harg14 : arg14.IsWhole) (arg15 : Memref sig .tc .vmem S512x128 .f32) (harg15 : arg15.IsWhole) (hc0 : ¬cond0_0 i)
    (x0 : Vec F S1x512x5120 .bf16) (x1 : Vec F S32x128x512 .fp8e4m3) (x2 : Vec F S32x32x512 .fp8e4m3) (x3 : Vec F S1x512 .f32) (x4 : Vec F S1x512 .f32) (x5 : Vec F S160x8192 .fp8e4m3) (x6 : Vec F S160x1 .f32) (x7 : Vec F S160x1 .f32) (xs1 : Vec F S512x128 .f32) :
    Σ' (LS0 : List (View.Piece (Elt F) S16x512x512 .f32)), { LS1 : List (View.Piece (Elt F) S512x128 .f32) //
      ∀ (xi8 : Vec F S1x1x512x8192 .fp8e4m3) (xi9 : Vec F S1x1x1x512 .f32) (xi10 : Vec F S1x1x160x512 .fp8e4m3) (xi11 : Vec F S1x1x1x512 .f32) (xs0 : Vec F S16x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ (arg14.view.loc (c : Thread nD τ) ↦[arg14.view.set]{fullShare} arg14.view.writes (Elt F) (harg14.unread xs0) LS0) ∗ (∃ f, arg15.view.loc (c : Thread nD τ) ↦[arg15.view.set]{fullShare} arg15.view.writes (Elt F) f LS1)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi8 xi9 xi10 xi11 xs0 E K => ?run⟩
  case run =>
    simp only [cc0_mlp_eq_skeleton]; unfold cc0_mlp_skel
    simp only [k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexact HS0
    iexists _; iexact HS1

end Cert.KernelIdeal.Run

end
-- ==== Proof.Ideal.RunB.lean ====
/- The kernel's body as one run, on the last hidden chunk of a row tile: besides its own slice it quantises the whole hidden tile and forms the second product. -/
module

public import proofs.«01_k».proof.Proof.Ideal.RunA

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on the last chunk: from the inputs at `x·`, the hidden tile with slice `k` at `ps k` for `k < 15` and the maxima at `xs1`, it ends
    with the inputs as they were and with the pieces `L·` stored over the outputs, `LS·` over the two scratch buffers. -/
noncomputable def kernelRun0_B (c : Dev nD) (i : grid0.Coords) (arg2 : Memref sig .tc .vmem S1x512x5120 .bf16) (harg2 : arg2.IsWhole) (arg3 : Memref sig .tc .vmem S32x128x512 .fp8e4m3) (harg3 : arg3.IsWhole) (arg4 : Memref sig .tc .vmem S32x32x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S160x8192 .fp8e4m3) (harg7 : arg7.IsWhole) (arg8 : Memref sig .tc .vmem S160x1 .f32) (harg8 : arg8.IsWhole) (arg9 : Memref sig .tc .vmem S160x1 .f32) (harg9 : arg9.IsWhole) (arg10 : Memref sig .tc .vmem S1x1x512x8192 .fp8e4m3) (harg10 : arg10.IsWhole) (arg11 : Memref sig .tc .vmem S1x1x1x512 .f32) (harg11 : arg11.IsWhole) (arg12 : Memref sig .tc .vmem S1x1x160x512 .fp8e4m3) (harg12 : arg12.IsWhole) (arg13 : Memref sig .tc .vmem S1x1x1x512 .f32) (harg13 : arg13.IsWhole) (arg14 : Memref sig .tc .vmem S16x512x512 .f32) (harg14 : arg14.IsWhole) (arg15 : Memref sig .tc .vmem S512x128 .f32) (harg15 : arg15.IsWhole) (hc0 : cond0_0 i) (hl0 : k0_off1 i = ![15, 0, 0])
    (x0 : Vec F S1x512x5120 .bf16) (x1 : Vec F S32x128x512 .fp8e4m3) (x2 : Vec F S32x32x512 .fp8e4m3) (x3 : Vec F S1x512 .f32) (x4 : Vec F S1x512 .f32) (x5 : Vec F S160x8192 .fp8e4m3) (x6 : Vec F S160x1 .f32) (x7 : Vec F S160x1 .f32) (xs1 : Vec F S512x128 .f32) (ps : ℕ → Vec F S1x512x512 .f32) :
    Σ' (L8 : List (View.Piece (Elt F) S1x1x512x8192 .fp8e4m3)), Σ' (L9 : List (View.Piece (Elt F) S1x1x1x512 .f32)), Σ' (L10 : List (View.Piece (Elt F) S1x1x160x512 .fp8e4m3)), Σ' (L11 : List (View.Piece (Elt F) S1x1x1x512 .f32)), Σ' (LS0 : List (View.Piece (Elt F) S16x512x512 .f32)), { LS1 : List (View.Piece (Elt F) S512x128 .f32) //
      ∀ (xs0 : Vec F S16x512x512 .f32) (hps0_0 : View.readAt (Elt F) arg14.view (Rect.unit (s := S16x512x512) ![0, 0, 0] S1x512x512.size inb_S16x512x512_S1x512x512_0_0_0).toLoadRect (harg14.unread xs0) = ps 0) (hps0_1 : View.readAt (Elt F) arg14.view (Rect.unit (s := S16x512x512) ![1, 0, 0] S1x512x512.size inb_S16x512x512_S1x512x512_1_0_0).toLoadRect (harg14.unread xs0) = ps 1) (hps0_2 : View.readAt (Elt F) arg14.view (Rect.unit (s := S16x512x512) ![2, 0, 0] S1x512x512.size inb_S16x512x512_S1x512x512_2_0_0).toLoadRect (harg14.unread xs0) = ps 2) (hps0_3 : View.readAt (Elt F) arg14.view (Rect.unit (s := S16x512x512) ![3, 0, 0] S1x512x512.size inb_S16x512x512_S1x512x512_3_0_0).toLoadRect (harg14.unread xs0) = ps 3) (hps0_4 : View.readAt (Elt F) arg14.view (Rect.unit (s := S16x512x512) ![4, 0, 0] S1x512x512.size inb_S16x512x512_S1x512x512_4_0_0).toLoadRect (harg14.unread xs0) = ps 4) (hps0_5 : View.readAt (Elt F) arg14.view (Rect.unit (s := S16x512x512) ![5, 0, 0] S1x512x512.size inb_S16x512x512_S1x512x512_5_0_0).toLoadRect (harg14.unread xs0) = ps 5) (hps0_6 : View.readAt (Elt F) arg14.view (Rect.unit (s := S16x512x512) ![6, 0, 0] S1x512x512.size inb_S16x512x512_S1x512x512_6_0_0).toLoadRect (harg14.unread xs0) = ps 6) (hps0_7 : View.readAt (Elt F) arg14.view (Rect.unit (s := S16x512x512) ![7, 0, 0] S1x512x512.size inb_S16x512x512_S1x512x512_7_0_0).toLoadRect (harg14.unread xs0) = ps 7) (hps0_8 : View.readAt (Elt F) arg14.view (Rect.unit (s := S16x512x512) ![8, 0, 0] S1x512x512.size inb_S16x512x512_S1x512x512_8_0_0).toLoadRect (harg14.unread xs0) = ps 8) (hps0_9 : View.readAt (Elt F) arg14.view (Rect.unit (s := S16x512x512) ![9, 0, 0] S1x512x512.size inb_S16x512x512_S1x512x512_9_0_0).toLoadRect (harg14.unread xs0) = ps 9) (hps0_10 : View.readAt (Elt F) arg14.view (Rect.unit (s := S16x512x512) ![10, 0, 0] S1x512x512.size inb_S16x512x512_S1x512x512_10_0_0).toLoadRect (harg14.unread xs0) = ps 10) (hps0_11 : View.readAt (Elt F) arg14.view (Rect.unit (s := S16x512x512) ![11, 0, 0] S1x512x512.size inb_S16x512x512_S1x512x512_11_0_0).toLoadRect (harg14.unread xs0) = ps 11) (hps0_12 : View.readAt (Elt F) arg14.view (Rect.unit (s := S16x512x512) ![12, 0, 0] S1x512x512.size inb_S16x512x512_S1x512x512_12_0_0).toLoadRect (harg14.unread xs0) = ps 12) (hps0_13 : View.readAt (Elt F) arg14.view (Rect.unit (s := S16x512x512) ![13, 0, 0] S1x512x512.size inb_S16x512x512_S1x512x512_13_0_0).toLoadRect (harg14.unread xs0) = ps 13) (hps0_14 : View.readAt (Elt F) arg14.view (Rect.unit (s := S16x512x512) ![14, 0, 0] S1x512x512.size inb_S16x512x512_S1x512x512_14_0_0).toLoadRect (harg14.unread xs0) = ps 14) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (arg14.view.loc (c : Thread nD τ) ↦[arg14.view.set]{fullShare} arg14.view.writes (Elt F) (harg14.unread xs0) LS0) ∗ (∃ f, arg15.view.loc (c : Thread nD τ) ↦[arg15.view.set]{fullShare} arg15.view.writes (Elt F) f LS1)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun xs0 hps0_0 hps0_1 hps0_2 hps0_3 hps0_4 hps0_5 hps0_6 hps0_7 hps0_8 hps0_9 hps0_10 hps0_11 hps0_12 hps0_13 hps0_14 E K => ?run⟩
  case run =>
    letI : ClosedOff (k0_off1 i) := ⟨![15, 0, 0], hl0⟩
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0; obtain rfl := harg15.eq_unread hfs1
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexact HS0
    iexists _; iexact HS1

end Cert.KernelIdeal.Run

end
-- ==== Proof.Ideal.Run.lean ====
/- The pipelined kernel's frame, with what its outputs hold: the hidden scratch holds the slices of the chunks met so far of
   the current row tile, the maxima scratch their running maxima; the outputs are stored on the last chunk. -/
module

public import proofs.«01_k».proof.Proof.Ideal.RunB
public import Idealize.ShloMosaic.Lib.WritesUnit
public import Idealize.ShloMosaic.Lib.WholeRead
public import Idealize.ShloMosaic.Lib.VecWindow
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point adds to the two scratch buffers -/

/-- The slice of the hidden tile a point computes from its blocks. -/
def hidOf (x0 : Vec F S1x512x5120 .bf16) (x1 : Vec F S32x128x512 .fp8e4m3) (x2 : Vec F S32x32x512 .fp8e4m3) (x3 : Vec F S1x512 .f32) (x4 : Vec F S1x512 .f32) : Vec F S1x512x512 .f32 :=
  k0_pay98 (View.ld (Val := Elt F) x0 (Rect.unit (s := S1x512x5120) ![0, 0, 0] S1x512x4096.size inb_S1x512x5120_S1x512x4096_0_0_0)) (View.ld (Val := Elt F) x1 (Rect.unit (s := S32x128x512) ![0, 0, 0] S32x128x512.size inb_S32x128x512_S32x128x512_0_0_0)) (View.ld (Val := Elt F) x0 (Rect.unit (s := S1x512x5120) ![0, 0, 4096] S1x512x1024.size inb_S1x512x5120_S1x512x1024_0_0_4096)) (View.ld (Val := Elt F) x2 (Rect.unit (s := S32x32x512) ![0, 0, 0] S32x32x512.size inb_S32x32x512_S32x32x512_0_0_0)) (View.ld (Val := Elt F) x3 (Rect.unit (s := S1x512) ![0, 0] S1x512.size inb_S1x512_S1x512_0_0)) (View.ld (Val := Elt F) x4 (Rect.unit (s := S1x512) ![0, 0] S1x512.size inb_S1x512_S1x512_0_0))
/-- The running maxima after a point, from its blocks and the maxima before it. -/
def mxOf (j : ℕ) (x0 : Vec F S1x512x5120 .bf16) (x1 : Vec F S32x128x512 .fp8e4m3) (x2 : Vec F S32x32x512 .fp8e4m3) (x3 : Vec F S1x512 .f32) (x4 : Vec F S1x512 .f32) (xs1 : Vec F S512x128 .f32) : Vec F S512x128 .f32 :=
  k0_pay1 (BitVec.ofNat 32 j) (k0_pay99 (View.ld (Val := Elt F) x0 (Rect.unit (s := S1x512x5120) ![0, 0, 0] S1x512x4096.size inb_S1x512x5120_S1x512x4096_0_0_0)) (View.ld (Val := Elt F) x1 (Rect.unit (s := S32x128x512) ![0, 0, 0] S32x128x512.size inb_S32x128x512_S32x128x512_0_0_0)) (View.ld (Val := Elt F) x0 (Rect.unit (s := S1x512x5120) ![0, 0, 4096] S1x512x1024.size inb_S1x512x5120_S1x512x1024_0_0_4096)) (View.ld (Val := Elt F) x2 (Rect.unit (s := S32x32x512) ![0, 0, 0] S32x32x512.size inb_S32x32x512_S32x32x512_0_0_0)) (View.ld (Val := Elt F) x3 (Rect.unit (s := S1x512) ![0, 0] S1x512.size inb_S1x512_S1x512_0_0)) (View.ld (Val := Elt F) x4 (Rect.unit (s := S1x512) ![0, 0] S1x512.size inb_S1x512_S1x512_0_0))) (k0_pay100 (View.ld (Val := Elt F) x0 (Rect.unit (s := S1x512x5120) ![0, 0, 0] S1x512x4096.size inb_S1x512x5120_S1x512x4096_0_0_0)) (View.ld (Val := Elt F) x1 (Rect.unit (s := S32x128x512) ![0, 0, 0] S32x128x512.size inb_S32x128x512_S32x128x512_0_0_0)) (View.ld (Val := Elt F) x0 (Rect.unit (s := S1x512x5120) ![0, 0, 4096] S1x512x1024.size inb_S1x512x5120_S1x512x1024_0_0_4096)) (View.ld (Val := Elt F) x2 (Rect.unit (s := S32x32x512) ![0, 0, 0] S32x32x512.size inb_S32x32x512_S32x32x512_0_0_0)) (View.ld (Val := Elt F) x3 (Rect.unit (s := S1x512) ![0, 0] S1x512.size inb_S1x512_S1x512_0_0)) (View.ld (Val := Elt F) x4 (Rect.unit (s := S1x512) ![0, 0] S1x512.size inb_S1x512_S1x512_0_0))) (k0_pay101 (View.ld (Val := Elt F) x0 (Rect.unit (s := S1x512x5120) ![0, 0, 0] S1x512x4096.size inb_S1x512x5120_S1x512x4096_0_0_0)) (View.ld (Val := Elt F) x1 (Rect.unit (s := S32x128x512) ![0, 0, 0] S32x128x512.size inb_S32x128x512_S32x128x512_0_0_0)) (View.ld (Val := Elt F) x0 (Rect.unit (s := S1x512x5120) ![0, 0, 4096] S1x512x1024.size inb_S1x512x5120_S1x512x1024_0_0_4096)) (View.ld (Val := Elt F) x2 (Rect.unit (s := S32x32x512) ![0, 0, 0] S32x32x512.size inb_S32x32x512_S32x32x512_0_0_0)) (View.ld (Val := Elt F) x3 (Rect.unit (s := S1x512) ![0, 0] S1x512.size inb_S1x512_S1x512_0_0)) (View.ld (Val := Elt F) x4 (Rect.unit (s := S1x512) ![0, 0] S1x512.size inb_S1x512_S1x512_0_0))) (View.ld (Val := Elt F) xs1 (Rect.unit (s := S512x128) ![0, 0] S512x128.size inb_S512x128_S512x128_0_0))

/-- On the first chunk the maxima do not depend on what the scratch held. -/
theorem mxOf_zero (x0 : Vec F S1x512x5120 .bf16) (x1 : Vec F S32x128x512 .fp8e4m3) (x2 : Vec F S32x32x512 .fp8e4m3) (x3 : Vec F S1x512 .f32) (x4 : Vec F S1x512 .f32) (xs1 xs1' : Vec F S512x128 .f32) :
    mxOf 0 x0 x1 x2 x3 x4 xs1 = mxOf 0 x0 x1 x2 x3 x4 xs1' := by
  unfold mxOf k0_pay1
  have h : Scalar.cmpi .eq (BitVec.ofNat 32 0) 0#32 = 1#1 := by decide
  have hs : ∀ (a b : FVec F S512x128 .f32), Scalar.select 1#1 a b = a := fun _ _ => rfl
  simp only [h, hs]

/-- Point number `n` of the grid. -/
def pt (n : ℕ) : Fin cfg0.N := ⟨n % 768, lt_of_lt_of_eq (Nat.mod_lt _ (by decide)) N_0.symm⟩
/-- The point with the number of point `t` is `t`. -/
theorem pt_val (t : Fin cfg0.N) : pt t.val = t := Fin.ext (Nat.mod_eq_of_lt (lt_of_lt_of_eq t.isLt N_0))

/-- The hidden slice of point `t`. -/
def hidAt (c : Dev nD) (t : Fin cfg0.N) : Vec F S1x512x512 .f32 := hidOf (iblk m c 0 t) (X0_1 m c t) (iblk m c 2 t) (iblk m c 3 t) (iblk m c 4 t)
/-- The maxima before point `n`. -/
def mxAt (c : Dev nD) : ℕ → Vec F S512x128 .f32
  | 0 => scM0_1.view.read (Elt F) scM0_1.view.junk
  | n + 1 => mxOf (n % 16) (iblk m c 0 (pt n)) (X0_1 m c (pt n)) (iblk m c 2 (pt n)) (iblk m c 3 (pt n)) (iblk m c 4 (pt n)) (mxAt c n)
/-- The hidden slices of the row tile point `t` is in. -/
def slAt (c : Dev nD) (t : Fin cfg0.N) (k : ℕ) : Vec F S1x512x512 .f32 := hidAt m c (pt (16 * (t.val / 16) + k))

/-! ## The runs at a point -/

/-- The body's run at a point before the last chunk. -/
abbrev runA (c : Dev nD) (t : Fin cfg0.N) (h : ¬t.val % 16 = 15) (xs1 : Vec F S512x128 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun hc => h ((hcond0_0 t).mp hc)) (iblk m c 0 t) (X0_1 m c t) (iblk m c 2 t) (iblk m c 3 t) (iblk m c 4 t) (iblk m c 5 t) (iblk m c 6 t) (iblk m c 7 t) xs1
/-- The body's run at the last chunk of a row tile. -/
abbrev runB (c : Dev nD) (t : Fin cfg0.N) (h : t.val % 16 = 15) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h) (hoff0_last t h) (iblk m c 0 t) (X0_1 m c t) (iblk m c 2 t) (iblk m c 3 t) (iblk m c 4 t) (iblk m c 5 t) (iblk m c 6 t) (iblk m c 7 t) (mxAt m c t.val) (slAt m c t)

/-- Before the last chunk the hidden scratch gets the point's slice. -/
theorem runA_LS0 (c : Dev nD) (t : Fin cfg0.N) (h : ¬t.val % 16 = 15) (xs1 : Vec F S512x128 .f32) :
    ∃ inb, (runA m c t h xs1).1 = [⟨Rect.unit (s := S16x512x512) (k0_off1 (grid0.coords t)) S1x512x512.size inb, hidAt m c t⟩] := by
  refine ⟨?_, ?_⟩
  · rw [hoff0 t]
    have : t.val % 16 < 16 := Nat.mod_lt _ (by decide)
    intro a
    fin_cases a
    · show t.val % 16 + 1 ≤ 16; omega
    · show 0 + 512 ≤ 512; omega
    · show 0 + 512 ≤ 512; omega
  · show [_] = [_]
    unfold hidAt hidOf
    simp only [View.readAt_eq_ld, Memref.IsWhole.read_unread]
    try rfl

/-- Before the last chunk the maxima scratch gets the new maxima. -/
theorem runA_LS1 (c : Dev nD) (t : Fin cfg0.N) (h : ¬t.val % 16 = 15) (xs1 : Vec F S512x128 .f32) :
    (runA m c t h xs1).2.1 = [⟨Rect.unit (s := S512x128) ![0, 0] S512x128.size inb_S512x128_S512x128_0_0, mxOf ((grid0.coords t) 1).val (iblk m c 0 t) (X0_1 m c t) (iblk m c 2 t) (iblk m c 3 t) (iblk m c 4 t) xs1⟩] := by
  show [_] = [_]
  unfold mxOf kernelRun0_A.sl.r kernelRun0_A.sl.r_1 kernelRun0_A.sl.r_2
  have hw : View.read (Elt F) (View.whole cc0_scratch1) ((Memref.isWhole_whole cc0_scratch1).unread xs1) = xs1 := (Memref.isWhole_whole cc0_scratch1).read_unread xs1
  simp only [View.readAt_eq_ld, Memref.IsWhole.read_unread]
  rw [hw]
  try rfl

/-- A point's second coordinate is its chunk. -/
theorem coord1 : ∀ t : Fin cfg0.N, ((grid0.coords t) 1).val = t.val % 16 := by decide +kernel

/-! ## The invariant -/

/-- What the two scratch buffers hold before point `n`: inside a row tile, the maxima so far and the slices so far. -/
def Inv (c : Dev nD) (n : ℕ) (h : Vec F S16x512x512 .f32) (mx : Vec F S512x128 .f32) : Prop :=
  (n % 16 ≠ 0 → mx = mxAt m c n) ∧
    ∀ (k : ℕ) (inb : ∀ a, (![k, 0, 0] : Fin 3 → ℕ) a + S1x512x512.size a ≤ S16x512x512.size a), k < n % 16 →
      View.ld (Val := Elt F) h (Rect.unit (s := S16x512x512) ![k, 0, 0] S1x512x512.size inb) = hidAt m c (pt (16 * (n / 16) + k))

/-- At the start of a row tile anything will do. -/
theorem inv_start (c : Dev nD) (n : ℕ) (hn : n % 16 = 0) (h : Vec F S16x512x512 .f32) (mx : Vec F S512x128 .f32) : Inv m c n h mx :=
  ⟨fun h' => absurd hn h', fun k _ hk => by omega⟩

/-- The maxima the body stores at `t` are those before the next point. -/
theorem mx_step (c : Dev nD) (t : Fin cfg0.N) (mx : Vec F S512x128 .f32) (hmx : t.val % 16 ≠ 0 → mx = mxAt m c t.val) :
    mxOf ((grid0.coords t) 1).val (iblk m c 0 t) (X0_1 m c t) (iblk m c 2 t) (iblk m c 3 t) (iblk m c 4 t) mx = mxAt m c (t.val + 1) := by
  show _ = mxOf (t.val % 16) (iblk m c 0 (pt t.val)) (X0_1 m c (pt t.val)) (iblk m c 2 (pt t.val)) (iblk m c 3 (pt t.val)) (iblk m c 4 (pt t.val)) (mxAt m c t.val)
  rw [coord1 t, pt_val t]
  by_cases h : t.val % 16 = 0
  · rw [h]; exact mxOf_zero _ _ _ _ _ _ _
  · rw [hmx h]

/-- Storing a point's slice and maxima keeps the invariant. -/
theorem inv_step (c : Dev nD) (t : Fin cfg0.N) (ht : ¬t.val % 16 = 15) (h : Vec F S16x512x512 .f32) (mx : Vec F S512x128 .f32) (hI : Inv m c t.val h mx) :
    Inv m c (t.val + 1) (scM0_0.view.read (Elt F) (scM0_0.view.writes (Elt F) ((Memref.isWhole_whole cc0_scratch0).unread h) (runA m c t ht mx).1))
      (mxAt m c (t.val + 1)) := by
  obtain ⟨inb0, e0⟩ := runA_LS0 m c t ht mx
  refine ⟨fun _ => rfl, fun k inb hk => ?_⟩
  have hoff : k0_off1 (grid0.coords t) = ![t.val % 16, 0, 0] := hoff0 t
  rw [e0]
  have h16 : (t.val + 1) / 16 = t.val / 16 := by omega
  rw [h16]
  by_cases hkt : k = t.val % 16
  · have hp : pt (16 * (t.val / 16) + k) = t := by rw [hkt, Nat.div_add_mod]; exact pt_val t
    rw [hp]
    funext x
    refine View.read_writes_cons_unit_of_mem scM0_0.view _ inb0 _ [] _ x hoff fun a => ?_
    rw [← hkt]; exact congrArg _ (Nat.one_mul _)
  · have hlt : k < t.val % 16 := by omega
    rw [← hI.2 k inb hlt]
    funext x
    refine (View.read_writes_cons_unit_of_not_mem scM0_0.view _ inb0 _ [] _ hoff (0 : Fin 3) (.inl ?_)).trans ?_
    · show k + 1 * (x 0).val < t.val % 16
      have : (x 0).val < 1 := (x 0).isLt
      omega
    · exact congrFun ((Memref.isWhole_whole cc0_scratch0).read_unread h) _
/-- On the last chunk the pieces stored into output 8 tile its block. -/
theorem cover0_8 (c : Dev nD) (t : Fin cfg0.N) (h : t.val % 16 = 15) (y : S1x1x512x8192.Idx) :
    ∃ pc ∈ (runB m c t h).1, y ∈ pc.1.set :=
  View.cover_of_tiledL (runB m c t h).1 S1x1x512x512.size (by sl_kernel_rfl) y
/-- On the last chunk the pieces stored into output 9 tile its block. -/
theorem cover0_9 (c : Dev nD) (t : Fin cfg0.N) (h : t.val % 16 = 15) (y : S1x1x1x512.Idx) :
    ∃ pc ∈ (runB m c t h).2.1, y ∈ pc.1.set :=
  View.cover_of_tiledL (runB m c t h).2.1 S1x1x1x512.size (by sl_kernel_rfl) y
/-- On the last chunk the pieces stored into output 10 tile its block. -/
theorem cover0_10 (c : Dev nD) (t : Fin cfg0.N) (h : t.val % 16 = 15) (y : S1x1x160x512.Idx) :
    ∃ pc ∈ (runB m c t h).2.2.1, y ∈ pc.1.set :=
  View.cover_of_tiledL (runB m c t h).2.2.1 S1x1x160x512.size (by sl_kernel_rfl) y
/-- On the last chunk the pieces stored into output 11 tile its block. -/
theorem cover0_11 (c : Dev nD) (t : Fin cfg0.N) (h : t.val % 16 = 15) (y : S1x1x1x512.Idx) :
    ∃ pc ∈ (runB m c t h).2.2.2.1, y ∈ pc.1.set :=
  View.cover_of_tiledL (runB m c t h).2.2.2.1 S1x1x1x512.size (by sl_kernel_rfl) y
/-! ## The proof data -/
/-- What point `t` leaves in output 8's staging buffer: on the last chunk the pieces stored (elsewhere it is idle). -/
def out0_8 (c : Dev nD) (t : Fin cfg0.N) : Vec F S1x1x512x8192 .fp8e4m3 :=
  if h : t.val % 16 = 15 then VO0_8.read (Elt F) (VO0_8.writes (Elt F) VO0_8.junk (runB m c t h).1) else VO0_8.read (Elt F) VO0_8.junk
/-- On the last chunk, output 8's staging buffer holds the pieces that the body stored. -/
theorem out0_8_last (c : Dev nD) (t : Fin cfg0.N) (h : t.val % 16 = 15) :
    out0_8 m c t = VO0_8.read (Elt F) (VO0_8.writes (Elt F) VO0_8.junk (runB m c t h).1) := dif_pos h
/-- What point `t` leaves in output 9's staging buffer: on the last chunk the pieces stored (elsewhere it is idle). -/
def out0_9 (c : Dev nD) (t : Fin cfg0.N) : Vec F S1x1x1x512 .f32 :=
  if h : t.val % 16 = 15 then VO0_9.read (Elt F) (VO0_9.writes (Elt F) VO0_9.junk (runB m c t h).2.1) else VO0_9.read (Elt F) VO0_9.junk
/-- On the last chunk, output 9's staging buffer holds the pieces that the body stored. -/
theorem out0_9_last (c : Dev nD) (t : Fin cfg0.N) (h : t.val % 16 = 15) :
    out0_9 m c t = VO0_9.read (Elt F) (VO0_9.writes (Elt F) VO0_9.junk (runB m c t h).2.1) := dif_pos h
/-- What point `t` leaves in output 10's staging buffer: on the last chunk the pieces stored (elsewhere it is idle). -/
def out0_10 (c : Dev nD) (t : Fin cfg0.N) : Vec F S1x1x160x512 .fp8e4m3 :=
  if h : t.val % 16 = 15 then VO0_10.read (Elt F) (VO0_10.writes (Elt F) VO0_10.junk (runB m c t h).2.2.1) else VO0_10.read (Elt F) VO0_10.junk
/-- On the last chunk, output 10's staging buffer holds the pieces that the body stored. -/
theorem out0_10_last (c : Dev nD) (t : Fin cfg0.N) (h : t.val % 16 = 15) :
    out0_10 m c t = VO0_10.read (Elt F) (VO0_10.writes (Elt F) VO0_10.junk (runB m c t h).2.2.1) := dif_pos h
/-- What point `t` leaves in output 11's staging buffer: on the last chunk the pieces stored (elsewhere it is idle). -/
def out0_11 (c : Dev nD) (t : Fin cfg0.N) : Vec F S1x1x1x512 .f32 :=
  if h : t.val % 16 = 15 then VO0_11.read (Elt F) (VO0_11.writes (Elt F) VO0_11.junk (runB m c t h).2.2.2.1) else VO0_11.read (Elt F) VO0_11.junk
/-- On the last chunk, output 11's staging buffer holds the pieces that the body stored. -/
theorem out0_11_last (c : Dev nD) (t : Fin cfg0.N) (h : t.val % 16 = 15) :
    out0_11 m c t = VO0_11.read (Elt F) (VO0_11.writes (Elt F) VO0_11.junk (runB m c t h).2.2.2.1) := dif_pos h
/-- The region invariant before point `n`: the two scratch buffers at contents the invariant describes, the generator register at some state. -/
def PhiS (c : Dev nD) (n : ℕ) : sProp 𝕄 :=
  iprop(∃ h mx, ⌜Inv m c n h mx⌝ ∗ iprop(owns (c : Thread nD τ) scM0_0 fullShare h ∗ owns (c : Thread nD τ) scM0_1 fullShare mx) ∗ (∃ r, prngReg c r))

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 m c t
    | ⟨9, _⟩ => out0_9 m c t
    | ⟨10, _⟩ => out0_10 m c t
    | ⟨11, _⟩ => out0_11 m c t
  Φ t := PhiS m c t.val
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]
/-- The invariant before point `t` is `PhiS` at its number. -/
theorem PhiS_castSucc (c : Dev nD) (t : Fin cfg0.N) : (dats m 0 c).Φ t.castSucc = PhiS m c t.val := by
  dsimp only [dats]; rfl
/-- What window 0 holds after point `t`, as the proof data say. -/
theorem after0_0 (c : Dev nD) (t : Fin cfg0.N) : (dats m 0 c).after 0 t = iblk m c 0 t := by dsimp only [dats]; try rfl
/-- What window 1 holds after point `t`, as the proof data say. -/
theorem after0_1 (c : Dev nD) (t : Fin cfg0.N) : (dats m 0 c).after 1 t = X0_1 m c t := by dsimp only [dats]; try rfl
/-- What window 2 holds after point `t`, as the proof data say. -/
theorem after0_2 (c : Dev nD) (t : Fin cfg0.N) : (dats m 0 c).after 2 t = iblk m c 2 t := by dsimp only [dats]; try rfl
/-- What window 3 holds after point `t`, as the proof data say. -/
theorem after0_3 (c : Dev nD) (t : Fin cfg0.N) : (dats m 0 c).after 3 t = iblk m c 3 t := by dsimp only [dats]; try rfl
/-- What window 4 holds after point `t`, as the proof data say. -/
theorem after0_4 (c : Dev nD) (t : Fin cfg0.N) : (dats m 0 c).after 4 t = iblk m c 4 t := by dsimp only [dats]; try rfl
/-- What window 5 holds after point `t`, as the proof data say. -/
theorem after0_5 (c : Dev nD) (t : Fin cfg0.N) : (dats m 0 c).after 5 t = iblk m c 5 t := by dsimp only [dats]; try rfl
/-- What window 6 holds after point `t`, as the proof data say. -/
theorem after0_6 (c : Dev nD) (t : Fin cfg0.N) : (dats m 0 c).after 6 t = iblk m c 6 t := by dsimp only [dats]; try rfl
/-- What window 7 holds after point `t`, as the proof data say. -/
theorem after0_7 (c : Dev nD) (t : Fin cfg0.N) : (dats m 0 c).after 7 t = iblk m c 7 t := by dsimp only [dats]; try rfl
/-- What window 8 holds after point `t`, as the proof data say. -/
theorem after0_8 (c : Dev nD) (t : Fin cfg0.N) : (dats m 0 c).after 8 t = out0_8 m c t := by dsimp only [dats]; try rfl
/-- What window 9 holds after point `t`, as the proof data say. -/
theorem after0_9 (c : Dev nD) (t : Fin cfg0.N) : (dats m 0 c).after 9 t = out0_9 m c t := by dsimp only [dats]; try rfl
/-- What window 10 holds after point `t`, as the proof data say. -/
theorem after0_10 (c : Dev nD) (t : Fin cfg0.N) : (dats m 0 c).after 10 t = out0_10 m c t := by dsimp only [dats]; try rfl
/-- What window 11 holds after point `t`, as the proof data say. -/
theorem after0_11 (c : Dev nD) (t : Fin cfg0.N) : (dats m 0 c).after 11 t = out0_11 m c t := by dsimp only [dats]; try rfl
/-- Input 0 holds its block before point `t`. -/
theorem before0_0 (c : Dev nD) (t : Fin cfg0.N) (d) : (dats m 0 c).before 0 t d = iblk m c 0 t :=
  before0_0_of m (dats m 0 c) (A_eq m c 0) (after0_0 m c) t d
/-- Input 1 holds its block before point `t`. -/
theorem before0_1 (c : Dev nD) (t : Fin cfg0.N) (d) : (dats m 0 c).before 1 t d = X0_1 m c t :=
  before0_1_of m (dats m 0 c) (A_eq m c 1) (after0_1 m c) t d
/-- Input 2 holds its block before point `t`. -/
theorem before0_2 (c : Dev nD) (t : Fin cfg0.N) (d) : (dats m 0 c).before 2 t d = iblk m c 2 t :=
  before0_2_of m (dats m 0 c) (A_eq m c 2) (after0_2 m c) t d
/-- Input 3 holds its block before point `t`. -/
theorem before0_3 (c : Dev nD) (t : Fin cfg0.N) (d) : (dats m 0 c).before 3 t d = iblk m c 3 t :=
  before0_3_of m (dats m 0 c) (A_eq m c 3) (after0_3 m c) t d
/-- Input 4 holds its block before point `t`. -/
theorem before0_4 (c : Dev nD) (t : Fin cfg0.N) (d) : (dats m 0 c).before 4 t d = iblk m c 4 t :=
  before0_4_of m (dats m 0 c) (A_eq m c 4) (after0_4 m c) t d
/-- Input 5 holds its block before point `t`. -/
theorem before0_5 (c : Dev nD) (t : Fin cfg0.N) (d) : (dats m 0 c).before 5 t d = iblk m c 5 t :=
  before0_5_of m (dats m 0 c) (A_eq m c 5) (after0_5 m c) t d
/-- Input 6 holds its block before point `t`. -/
theorem before0_6 (c : Dev nD) (t : Fin cfg0.N) (d) : (dats m 0 c).before 6 t d = iblk m c 6 t :=
  before0_6_of m (dats m 0 c) (A_eq m c 6) (after0_6 m c) t d
/-- Input 7 holds its block before point `t`. -/
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 14400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) from rfl, PhiS_castSucc m c t]
  unfold PhiS
  by_cases h0 : t.val % 16 = 15
  · have hc := (hcond0_0 t).mpr h0
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t hc], after0_8, out0_8_last m c t h0]
    rw [show (dats m 0 c).leavesExact 9 t = owns (c : Thread nD τ) (ms0_9 t) fullShare ((dats m 0 c).after 9 t) from by
      unfold Dat.leavesExact; rw [liveAt0_9 t hc], after0_9, out0_9_last m c t h0]
    rw [show (dats m 0 c).leavesExact 10 t = owns (c : Thread nD τ) (ms0_10 t) fullShare ((dats m 0 c).after 10 t) from by
      unfold Dat.leavesExact; rw [liveAt0_10 t hc], after0_10, out0_10_last m c t h0]
    rw [show (dats m 0 c).leavesExact 11 t = owns (c : Thread nD τ) (ms0_11 t) fullShare ((dats m 0 c).after 11 t) from by
      unfold Dat.leavesExact; rw [liveAt0_11 t hc], after0_11, out0_11_last m c t h0]
    iintro ⟨⟨%h, %mx, %hI, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hmx : mx = mxAt m c t.val := hI.1 (by omega)
    subst hmx
    have e0 : View.readAt (Elt F) scM0_0.view (Rect.unit (s := S16x512x512) ![0, 0, 0] S1x512x512.size inb_S16x512x512_S1x512x512_0_0_0).toLoadRect ((Memref.isWhole_whole cc0_scratch0).unread h) = slAt m c t 0 := by
      rw [View.readAt_eq_ld, Memref.IsWhole.read_unread]; exact hI.2 0 _ (by omega)
    have e1 : View.readAt (Elt F) scM0_0.view (Rect.unit (s := S16x512x512) ![1, 0, 0] S1x512x512.size inb_S16x512x512_S1x512x512_1_0_0).toLoadRect ((Memref.isWhole_whole cc0_scratch0).unread h) = slAt m c t 1 := by
      rw [View.readAt_eq_ld, Memref.IsWhole.read_unread]; exact hI.2 1 _ (by omega)
    have e2 : View.readAt (Elt F) scM0_0.view (Rect.unit (s := S16x512x512) ![2, 0, 0] S1x512x512.size inb_S16x512x512_S1x512x512_2_0_0).toLoadRect ((Memref.isWhole_whole cc0_scratch0).unread h) = slAt m c t 2 := by
      rw [View.readAt_eq_ld, Memref.IsWhole.read_unread]; exact hI.2 2 _ (by omega)
    have e3 : View.readAt (Elt F) scM0_0.view (Rect.unit (s := S16x512x512) ![3, 0, 0] S1x512x512.size inb_S16x512x512_S1x512x512_3_0_0).toLoadRect ((Memref.isWhole_whole cc0_scratch0).unread h) = slAt m c t 3 := by
      rw [View.readAt_eq_ld, Memref.IsWhole.read_unread]; exact hI.2 3 _ (by omega)
    have e4 : View.readAt (Elt F) scM0_0.view (Rect.unit (s := S16x512x512) ![4, 0, 0] S1x512x512.size inb_S16x512x512_S1x512x512_4_0_0).toLoadRect ((Memref.isWhole_whole cc0_scratch0).unread h) = slAt m c t 4 := by
      rw [View.readAt_eq_ld, Memref.IsWhole.read_unread]; exact hI.2 4 _ (by omega)
    have e5 : View.readAt (Elt F) scM0_0.view (Rect.unit (s := S16x512x512) ![5, 0, 0] S1x512x512.size inb_S16x512x512_S1x512x512_5_0_0).toLoadRect ((Memref.isWhole_whole cc0_scratch0).unread h) = slAt m c t 5 := by
      rw [View.readAt_eq_ld, Memref.IsWhole.read_unread]; exact hI.2 5 _ (by omega)
    have e6 : View.readAt (Elt F) scM0_0.view (Rect.unit (s := S16x512x512) ![6, 0, 0] S1x512x512.size inb_S16x512x512_S1x512x512_6_0_0).toLoadRect ((Memref.isWhole_whole cc0_scratch0).unread h) = slAt m c t 6 := by
      rw [View.readAt_eq_ld, Memref.IsWhole.read_unread]; exact hI.2 6 _ (by omega)
    have e7 : View.readAt (Elt F) scM0_0.view (Rect.unit (s := S16x512x512) ![7, 0, 0] S1x512x512.size inb_S16x512x512_S1x512x512_7_0_0).toLoadRect ((Memref.isWhole_whole cc0_scratch0).unread h) = slAt m c t 7 := by
      rw [View.readAt_eq_ld, Memref.IsWhole.read_unread]; exact hI.2 7 _ (by omega)
    have e8 : View.readAt (Elt F) scM0_0.view (Rect.unit (s := S16x512x512) ![8, 0, 0] S1x512x512.size inb_S16x512x512_S1x512x512_8_0_0).toLoadRect ((Memref.isWhole_whole cc0_scratch0).unread h) = slAt m c t 8 := by
      rw [View.readAt_eq_ld, Memref.IsWhole.read_unread]; exact hI.2 8 _ (by omega)
    have e9 : View.readAt (Elt F) scM0_0.view (Rect.unit (s := S16x512x512) ![9, 0, 0] S1x512x512.size inb_S16x512x512_S1x512x512_9_0_0).toLoadRect ((Memref.isWhole_whole cc0_scratch0).unread h) = slAt m c t 9 := by
      rw [View.readAt_eq_ld, Memref.IsWhole.read_unread]; exact hI.2 9 _ (by omega)
    have e10 : View.readAt (Elt F) scM0_0.view (Rect.unit (s := S16x512x512) ![10, 0, 0] S1x512x512.size inb_S16x512x512_S1x512x512_10_0_0).toLoadRect ((Memref.isWhole_whole cc0_scratch0).unread h) = slAt m c t 10 := by
      rw [View.readAt_eq_ld, Memref.IsWhole.read_unread]; exact hI.2 10 _ (by omega)
    have e11 : View.readAt (Elt F) scM0_0.view (Rect.unit (s := S16x512x512) ![11, 0, 0] S1x512x512.size inb_S16x512x512_S1x512x512_11_0_0).toLoadRect ((Memref.isWhole_whole cc0_scratch0).unread h) = slAt m c t 11 := by
      rw [View.readAt_eq_ld, Memref.IsWhole.read_unread]; exact hI.2 11 _ (by omega)
    have e12 : View.readAt (Elt F) scM0_0.view (Rect.unit (s := S16x512x512) ![12, 0, 0] S1x512x512.size inb_S16x512x512_S1x512x512_12_0_0).toLoadRect ((Memref.isWhole_whole cc0_scratch0).unread h) = slAt m c t 12 := by
      rw [View.readAt_eq_ld, Memref.IsWhole.read_unread]; exact hI.2 12 _ (by omega)
    have e13 : View.readAt (Elt F) scM0_0.view (Rect.unit (s := S16x512x512) ![13, 0, 0] S1x512x512.size inb_S16x512x512_S1x512x512_13_0_0).toLoadRect ((Memref.isWhole_whole cc0_scratch0).unread h) = slAt m c t 13 := by
      rw [View.readAt_eq_ld, Memref.IsWhole.read_unread]; exact hI.2 13 _ (by omega)
    have e14 : View.readAt (Elt F) scM0_0.view (Rect.unit (s := S16x512x512) ![14, 0, 0] S1x512x512.size inb_S16x512x512_S1x512x512_14_0_0).toLoadRect ((Memref.isWhole_whole cc0_scratch0).unread h) = slAt m c t 14 := by
      rw [View.readAt_eq_ld, Memref.IsWhole.read_unread]; exact hI.2 14 _ (by omega)
    iapply ((runB m c t h0).2.2.2.2.2.2 h e0 e1 e2 e3 e4 e5 e6 e7 e8 e9 e10 e11 e12 e13 e14 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, ⟨%e8, H8⟩, ⟨%e9, H9⟩, ⟨%e10, H10⟩, ⟨%e11, H11⟩, HS0, ⟨%es1, HS1⟩⟩
    isplitl [HS0 HS1 Hg]
    · iexists _, _
      isplitr
      · ipureintro; exact inv_start m c _ (by omega) (scM0_0.view.read (Elt F) (scM0_0.view.writes (Elt F) ((Memref.isWhole_whole cc0_scratch0).unread h) (runB m c t h0).2.2.2.2.1)) (scM0_1.view.read (Elt F) (scM0_1.view.writes (Elt F) es1 (runB m c t h0).2.2.2.2.2.1))
      isplitl [HS0 HS1]
      · isplitl [HS0]
        · unfold owns; iexists _; isplitr
          swap; · iexact HS0
          ipureintro; rfl
        unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_8 m c t h0)
    isplitl [H9]
    · unfold owns; iexists _; isplitr
      swap; · iexact H9
      ipureintro; exact View.read_writes_of_cover _ _ _ _ _ (cover0_9 m c t h0)
    isplitl [H10]
    · unfold owns; iexists _; isplitr
      swap; · iexact H10
      ipureintro; exact View.read_writes_of_cover _ _ _ _ _ (cover0_10 m c t h0)
    unfold owns; iexists _; isplitr
    swap; · iexact H11
    ipureintro; exact View.read_writes_of_cover _ _ _ _ _ (cover0_11 m c t h0)
  · have hc := fun hc => h0 ((hcond0_0 t).mp hc)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [Dat.leavesExact_idle (dats m 0 c) 8 t (idleAt0_8 t hc) (noFlush0_8 t hc)]
    rw [Dat.leavesExact_idle (dats m 0 c) 9 t (idleAt0_9 t hc) (noFlush0_9 t hc)]
    rw [Dat.leavesExact_idle (dats m 0 c) 10 t (idleAt0_10 t hc) (noFlush0_10 t hc)]
    rw [Dat.leavesExact_idle (dats m 0 c) 11 t (idleAt0_11 t hc) (noFlush0_11 t hc)]
    iintro ⟨⟨%h, %mx, %hI, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hI' := inv_step m c t h0 h mx hI
    have hm := mx_step m c t mx hI.1
    have e1 := runA_LS1 m c t h0 mx
    iapply ((runA m c t h0 mx).2.2 _ _ _ _ h Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    iintro ⟨H0, H1, H2, H3, H4, H5, H6, H7, H8, H9, H10, H11, HS0, ⟨%es1, HS1⟩⟩
    isplitl [HS0 HS1 Hg]
    · iexists _, _
      isplitr
      · ipureintro; exact hI'
      isplitl [HS0 HS1]
      · isplitl [HS0]
        · unfold owns; iexists _; isplitr
          swap; · iexact HS0
          ipureintro; rfl
        unfold owns; iexists _; isplitr
        swap; · iexact HS1
        ipureintro
        rw [e1, ← hm]
        exact View.read_writes_full _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexists _; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%dS0, HS0⟩, ⟨%dS1, HS1⟩⟩, Hg⟩
  iexists dS0, dS1
  isplitr
  · ipureintro; exact inv_start m c 0 rfl dS0 dS1
  isplitl [HS0 HS1]
  · isplitl [HS0]; · iexact HS0
    iexact HS1
  iexact Hg

/-- After the last point the invariant gives the region's rest back. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%dS0, %dS1, -, ⟨HS0, HS1⟩, Hg⟩
  isplitl [HS0 HS1]
  · isplitl [HS0]
    · iexists _; iexact HS0
    iexists _; iexact HS1
  iexact Hg

/-! ## The run and the frame -/

set_option backward.isDefEq.respectTransparency.types false in
/-- The run: every array of the pipeline ends at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Run

end
-- ==== Proof.Ideal.Pieces.lean ====
/- What the body stores on the last chunk of a row tile, over the maxima and the hidden slices of the tile. -/
module

public import proofs.«01_k».proof.Proof.Ideal.Run

@[expose] public section

set_option maxRecDepth 16384

noncomputable section

namespace Cert.KernelIdeal.Run

open Idealize.ShloMosaic Idealize.ShloMosaic.TcCoe Idealize.ShloMosaic.Tactic
open Cert.KernelIdeal.Gen

variable {F : FTy → Type} [FloatOps F]
variable (m : (ℓ : Loc nD τ sig) → Buf (Elt F) ℓ)

/-- The exponents of the tile's rows, along the lanes, from the maxima. -/
def eT (mx : Vec F S512x128 .f32) : IVec S512x128 32 := k0_pay8 (k0_pay4 mx) (k0_pay5 mx) (k0_pay6 mx) (k0_pay7 mx)
/-- The inverse scales, along the lanes. -/
def invT (mx : Vec F S512x128 .f32) : FVec F S512x128 .f32 := k0_pay10 (eT mx)
/-- The scales, as a row. -/
def rowT (mx : Vec F S512x128 .f32) : FVec F S1x512 .f32 := k0_pay11 (eT mx) k0_pay9
/-- A slice quantised. -/
def qT (inv : FVec F S512x128 .f32) (s : Vec F S1x512x512 .f32) : FVec F S512x512 .fp8e4m3 := k0_pay31 inv s

/-- Chunk `k` of the second weight's columns lies inside the weight. -/
theorem inb_wT (k : ℕ) : ∀ a, (![0, 512 * (k % 16)] : Fin 2 → ℕ) a + S160x512.size a ≤ S160x8192.size a := by
  have : k % 16 < 16 := Nat.mod_lt _ (by decide)
  intro a
  fin_cases a
  · show 0 + 160 ≤ 160; omega
  · show 512 * (k % 16) + 512 ≤ 8192; omega
/-- Chunk `k` of the second weight's columns. -/
def wT (x5 : Vec F S160x8192 .fp8e4m3) (k : ℕ) : Vec F S160x512 .fp8e4m3 :=
  View.ld (Val := Elt F) x5 (Rect.unit (s := S160x8192) ![0, 512 * (k % 16)] S160x512.size (inb_wT k))
/-- The second product's sum over the first `n` chunks. -/
def accT (x5 : Vec F S160x8192 .fp8e4m3) (q : ℕ → FVec F S512x512 .fp8e4m3) : ℕ → FVec F S160x512 .f32
  | 0 => k0_pay13
  | n + 1 => k0_pay33 (accT x5 q n) (q n) (wT x5 n)
/-- The second layer's tile, transposed. -/
def cT (acc : FVec F S160x512 .f32) (row : FVec F S1x512 .f32) (x6 x7 : Vec F S160x1 .f32) : FVec F S160x512 .f32 :=
  addf (mulf (mulf acc (broadcastTo S160x512 row broadcasts_S1x512_S160x512)) (broadcastTo S160x512 (shapeCast S160x1 x6 shapeCasts_S160x1_S160x1) broadcasts_S160x1_S160x512)) (broadcastTo S160x512 (shapeCast S160x1 x7 shapeCasts_S160x1_S160x1) broadcasts_S160x1_S160x512)
/-- Its columns' maxima, over 448. -/
def mT (v : FVec F S160x512 .f32) : FVec F S8x512 .f32 :=
  mulf (broadcastTo S8x512 (shapeCast S1x512 (shapeCast S1x512 (multiReduction .maximumf [0] S512 (absf v) 0xFF800000#32 reduces_S160x512_S512 (.inl rfl) rfl) shapeCasts_S512_S1x512) shapeCasts_S1x512_S1x512) broadcasts_S1x512_S8x512) (broadcast S8x512 (Scalar.ofBits .f32 0x3B124925#32))
/-- The second quantiser's scales and their inverses. -/
def sc2T (x : FVec F S8x512 .f32) : FVec F S8x512 .f32 := k0_pay95 x (k0_pay91 x 0#32) (k0_pay92 x 0#32) (k0_pay93 x 0#32)
def inv2T (x : FVec F S8x512 .f32) : FVec F S8x512 .f32 := k0_pay96 x (k0_pay91 x 0#32) (k0_pay92 x 0#32) (k0_pay93 x 0#32)

/-- The piece of chunk `k` lies inside the block of hidden codes. -/
theorem inb_pT (k : ℕ) : ∀ a, (![0, 0, 0, 512 * (k % 16)] : Fin 4 → ℕ) a + S1x1x512x512.size a ≤ S1x1x512x8192.size a := by
  have : k % 16 < 16 := Nat.mod_lt _ (by decide)
  intro a
  fin_cases a
  · show 0 + 1 ≤ 1; omega
  · show 0 + 1 ≤ 1; omega
  · show 0 + 512 ≤ 512; omega
  · show 512 * (k % 16) + 512 ≤ 8192; omega
/-- Slice `k` quantised, stored over its columns of the first output. -/
def pieceT (inv : FVec F S512x128 .f32) (sl : ℕ → Vec F S1x512x512 .f32) (k : ℕ) : View.Piece (Elt F) S1x1x512x8192 .fp8e4m3 :=
  ⟨Rect.unit (s := S1x1x512x8192) ![0, 0, 0, 512 * (k % 16)] S1x1x512x512.size (inb_pT k), shapeCast S1x1x512x512 (qT inv (sl k)) shapeCasts_S512x512_S1x1x512x512⟩

/-- The tile of the second layer at a point. -/
def cAt (c : Dev nD) (t : Fin cfg0.N) : FVec F S160x512 .f32 :=
  cT (accT (iblk m c 5 t) (fun k => qT (invT (mxAt m c (t.val + 1))) (slAt m c t k)) 16) (rowT (mxAt m c (t.val + 1))) (iblk m c 6 t) (iblk m c 7 t)

/-- The tile's last slice is the point's own. -/
theorem slAt_last (c : Dev nD) (t : Fin cfg0.N) (h : t.val % 16 = 15) : slAt m c t 15 = hidAt m c t := by
  unfold slAt
  rw [show 16 * (t.val / 16) + 15 = t.val by omega, pt_val]

set_option maxHeartbeats 2000000

abbrev v49At (c : Dev nD) (t : Fin cfg0.N) : Vec F S512x128 .f32 :=
  kernelRun0_B.sl.v49 c (grid0.coords t) (ms0_0 t) (hs0_0 t) (ms0_1 t) (hs0_1 t) (ms0_2 t) (hs0_2 t) (ms0_3 t) (hs0_3 t) (ms0_4 t) (hs0_4 t) scM0_1 (Memref.isWhole_whole _) (iblk m c 0 t) (X0_1 m c t) (iblk m c 2 t) (iblk m c 3 t) (iblk m c 4 t) (mxAt m c t.val)
/-- The maxima read back on the last chunk. -/
theorem v49At_eq (c : Dev nD) (t : Fin cfg0.N) : v49At m c t = mxAt m c (t.val + 1) := by
  unfold v49At kernelRun0_B.sl.v49 kernelRun0_B.sl.HS1_1
  refine (View.readCov_cons_toLoadRect _ _ _ _).trans ?_
  rw [← mx_step m c t (mxAt m c t.val) (fun _ => rfl)]
  unfold mxOf kernelRun0_B.sl.r kernelRun0_B.sl.r_1 kernelRun0_B.sl.r_2
  have hw : View.read (Elt F) (View.whole cc0_scratch1) ((Memref.isWhole_whole cc0_scratch1).unread (mxAt m c t.val)) = mxAt m c t.val := (Memref.isWhole_whole cc0_scratch1).read_unread _
  simp only [View.readAt_eq_ld, Memref.IsWhole.read_unread]
  try rw [hw]
  try rfl

abbrev v721At (c : Dev nD) (t : Fin cfg0.N) : Vec F S1x512x512 .f32 :=
  kernelRun0_B.sl.v721 c (grid0.coords t) (ms0_0 t) (hs0_0 t) (ms0_1 t) (hs0_1 t) (ms0_2 t) (hs0_2 t) (ms0_3 t) (hs0_3 t) (ms0_4 t) (hs0_4 t) scM0_0 (iblk m c 0 t) (X0_1 m c t) (iblk m c 2 t) (iblk m c 3 t) (iblk m c 4 t)
/-- The last slice read back. -/
theorem v721At_eq (c : Dev nD) (t : Fin cfg0.N) (h : t.val % 16 = 15) : v721At m c t = slAt m c t 15 := by
  rw [slAt_last m c t h]
  unfold v721At kernelRun0_B.sl.v721 kernelRun0_B.sl.HS0_1
  rw [View.readCov_eq_canon']
  unfold hidAt hidOf
  simp only [View.readAt_eq_ld, Memref.IsWhole.read_unread]
  have hoff := hoff0_last t h
  funext j
  have : ∀ (off : Fin 3 → ℕ) (inb inb') (w : Vec F S1x512x512 .f32), off = ![15, 0, 0] →
      View.canon (Val := Elt F) [(⟨Rect.unit (s := S16x512x512) off S1x512x512.size inb, w⟩ : View.Piece (Elt F) S16x512x512 .f32)] ((Rect.unit (s := S16x512x512) ![15, 0, 0] S1x512x512.size inb').toLoadRect.idx j) = w j := by
    intro off inb inb' w e
    subst e
    exact View.canon_cons_emb _ w [] j
  exact this _ _ _ _ hoff

set_option maxHeartbeats 8000000

/-- The first output's pieces: the slices quantised. -/
theorem runB_8 (c : Dev nD) (t : Fin cfg0.N) (h : t.val % 16 = 15) : (runB m c t h).1 = [pieceT (invT (mxAt m c (t.val + 1))) (slAt m c t) 15, pieceT (invT (mxAt m c (t.val + 1))) (slAt m c t) 14, pieceT (invT (mxAt m c (t.val + 1))) (slAt m c t) 13, pieceT (invT (mxAt m c (t.val + 1))) (slAt m c t) 12, pieceT (invT (mxAt m c (t.val + 1))) (slAt m c t) 11, pieceT (invT (mxAt m c (t.val + 1))) (slAt m c t) 10, pieceT (invT (mxAt m c (t.val + 1))) (slAt m c t) 9, pieceT (invT (mxAt m c (t.val + 1))) (slAt m c t) 8, pieceT (invT (mxAt m c (t.val + 1))) (slAt m c t) 7, pieceT (invT (mxAt m c (t.val + 1))) (slAt m c t) 6, pieceT (invT (mxAt m c (t.val + 1))) (slAt m c t) 5, pieceT (invT (mxAt m c (t.val + 1))) (slAt m c t) 4, pieceT (invT (mxAt m c (t.val + 1))) (slAt m c t) 3, pieceT (invT (mxAt m c (t.val + 1))) (slAt m c t) 2, pieceT (invT (mxAt m c (t.val + 1))) (slAt m c t) 1, pieceT (invT (mxAt m c (t.val + 1))) (slAt m c t) 0] := by
  unfold runB kernelRun0_B
  dsimp only
  have e49 := v49At_eq m c t
  have e721 := v721At_eq m c t h
  unfold v49At at e49
  unfold v721At at e721
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, e49, e721]
  rfl

/-- The second output's piece: the scales. -/
theorem runB_9 (c : Dev nD) (t : Fin cfg0.N) (h : t.val % 16 = 15) :
    (runB m c t h).2.1 = [⟨Rect.unit (s := S1x1x1x512) ![0, 0, 0, 0] S1x1x1x512.size inb_S1x1x1x512_S1x1x1x512_0_0_0_0, shapeCast S1x1x1x512 (rowT (mxAt m c (t.val + 1))) shapeCasts_S1x512_S1x1x1x512⟩] := by
  unfold runB kernelRun0_B
  dsimp only
  have e49 := v49At_eq m c t
  unfold v49At at e49
  simp only [kernelRun0_B.sl.r_3, kernelRun0_B.sl.r_4, kernelRun0_B.sl.r_5, kernelRun0_B.sl.r_6, kernelRun0_B.sl.r_7, e49]
  rfl

/-! ## The second layer -/

/-- The second layer's tile, -/
theorem r53_eq (c : Dev nD) (t : Fin cfg0.N) (h : t.val % 16 = 15) :
    kernelRun0_B.sl.r_53 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 scM0_1 (Memref.isWhole_whole _) (iblk m c 0 t) (X0_1 m c t) (iblk m c 2 t) (iblk m c 3 t) (iblk m c 4 t) (iblk m c 5 t) (iblk m c 6 t) (iblk m c 7 t) (mxAt m c t.val) (slAt m c t) = cAt m c t := by
  have e49 := v49At_eq m c t
  have e721 := v721At_eq m c t h
  unfold v49At at e49
  unfold v721At at e721
  have hz : ∀ (X : Vec F S160x1 .f32), View.ld (Val := Elt F) X (Rect.unit (s := S160x1) ![0, 0] S160x1.size inb_S160x1_S160x1_0_0) = X := fun X => View.ld_unit_zero (by decide) _ X
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, e49, e721, View.readAt_eq_ld, Memref.IsWhole.read_unread]
  rw [hz, hz]
  rfl

/-- and what the second quantiser reads. -/
theorem r54_eq (c : Dev nD) (t : Fin cfg0.N) (h : t.val % 16 = 15) :
    kernelRun0_B.sl.r_54 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 scM0_1 (Memref.isWhole_whole _) (iblk m c 0 t) (X0_1 m c t) (iblk m c 2 t) (iblk m c 3 t) (iblk m c 4 t) (iblk m c 5 t) (iblk m c 6 t) (iblk m c 7 t) (mxAt m c t.val) (slAt m c t) = mT (cAt m c t) := by
  rw [← r53_eq m c t h]
  rfl

/-- The third output's piece: the second layer quantised. -/
theorem runB_10 (c : Dev nD) (t : Fin cfg0.N) (h : t.val % 16 = 15) :
    (runB m c t h).2.2.1 = [⟨Rect.unit (s := S1x1x160x512) ![0, 0, 0, 0] S1x1x160x512.size inb_S1x1x160x512_S1x1x160x512_0_0_0_0, k0_pay2 (cAt m c t) (inv2T (mT (cAt m c t)))⟩] := by
  have e54 := r54_eq m c t h
  rw [← r53_eq m c t h, inv2T]
  rw [r53_eq m c t h, ← e54, ← r53_eq m c t h]
  rfl

/-- The fourth output's piece: its scales. -/
theorem runB_11 (c : Dev nD) (t : Fin cfg0.N) (h : t.val % 16 = 15) :
    (runB m c t h).2.2.2.1 = [⟨Rect.unit (s := S1x1x1x512) ![0, 0, 0, 0] S1x1x1x512.size inb_S1x1x1x512_S1x1x1x512_0_0_0_0, k0_pay3 (sc2T (mT (cAt m c t)))⟩] := by
  have e54 := r54_eq m c t h
  rw [sc2T, ← e54]
  rfl

end Cert.KernelIdeal.Run

end
-- ==== Proof.Pow2.lean ====
/- The power-of-two scale of a quantiser, at the extended reals: the exponent field found by binary search against the one
   stated by the logarithm. -/
module

public import Idealize.ShloMosaic.Lib.Pointwise
public import Idealize.ShloMosaic.PureOps.Ideal.Laws
public import Mathlib.Analysis.SpecialFunctions.Pow.Real

@[expose] public section

noncomputable section

namespace Cert.Pow2

open Idealize.ShloMosaic

/-- `2 ^ (n - 127)`, the number whose float32 pattern is the exponent field `n` alone. -/
def P (n : ℕ) : EReal := (((2 : ℝ) ^ ((n : ℤ) - 127) : ℝ) : EReal)

/-- Larger fields mean larger powers. -/
theorem P_mono {a b : ℕ} (h : a ≤ b) : P a ≤ P b := by
  unfold P
  exact EReal.coe_le_coe_iff.mpr (zpow_le_zpow_right₀ (by norm_num) (by omega))

/-- A float32 word that is an exponent field alone reads as that power of two. -/
theorem ofBits_field (n : ℕ) (h1 : 1 ≤ n) (h2 : n ≤ 254) :
    Ideal.ofBits .f32 (BitVec.ofNat 32 n <<< (23#32 : BitVec 32)) = P n := by
  have hb : (BitVec.ofNat 32 n <<< (23#32 : BitVec 32)).toNat = n * 2 ^ 23 := by
    rw [BitVec.shiftLeft_eq', BitVec.toNat_shiftLeft, BitVec.toNat_ofNat]
    rw [show (23#32 : BitVec 32).toNat = 23 from rfl, Nat.shiftLeft_eq]
    omega
  generalize BitVec.ofNat 32 n <<< (23#32 : BitVec 32) = b at hb
  have hneg : (b.extractLsb' (8 + 23) 1 == 1#1) = false := by
    rw [beq_eq_false_iff_ne]
    intro h
    have := congrArg BitVec.toNat h
    rw [BitVec.extractLsb'_toNat, hb, Nat.shiftRight_eq_div_pow] at this
    have e : n * 2 ^ 23 / 2 ^ (8 + 23) = 0 := Nat.div_eq_of_lt (by omega)
    rw [e] at this
    exact absurd this (by decide)
  have hex : (b.extractLsb' 23 8).toNat = n := by
    rw [BitVec.extractLsb'_toNat, hb, Nat.shiftRight_eq_div_pow]; omega
  have hfr : (b.extractLsb' 0 23).toNat = 0 := by
    rw [BitVec.extractLsb'_toNat, hb, Nat.shiftRight_eq_div_pow]; omega
  simp only [Ideal.ofBits, Ideal.ieee, hneg, hex, hfr]
  rw [if_neg (by omega), if_neg (by omega)]
  unfold P
  norm_num
  rw [← EReal.coe_mul]
  congr 1
  rw [zpow_sub₀ (by norm_num) _ 23]
  norm_num
  ring

/-- One step of the search: try the field `s` higher, capped at 252. -/
def stepS (x : Ideal .f32) (f s : BitVec 32) : BitVec 32 :=
  Scalar.select (FloatOps.cmpf .oge x (FloatOps.ofBits .f32 (IntOp.shli .vector (IntOp.minsi (IntOp.addi f s) 252#32) 23#32)))
    (IntOp.minsi (IntOp.addi f s) 252#32) f

/-- The exponent field of `x`, by binary search. -/
def fieldS (x : Ideal .f32) : BitVec 32 :=
  stepS x (stepS x (stepS x (stepS x (stepS x (stepS x (stepS x (stepS x 0#32 128#32) 64#32) 32#32) 16#32) 8#32) 4#32) 2#32) 1#32

/-- The exponent from the field: zero for a zero field. -/
def expS (x : Ideal .f32) : BitVec 32 :=
  Scalar.select (IntOp.cmpi .eq (fieldS x) 0#32) 0#32 (IntOp.subi (fieldS x) 126#32)

/-- The scale and its inverse, assembled from the exponent. -/
def scaleS (x : Ideal .f32) : Ideal .f32 :=
  FloatOps.ofBits .f32 (IntOp.shli .vector (IntOp.addi (expS x) 127#32) 23#32)
def invS (x : Ideal .f32) : Ideal .f32 :=
  FloatOps.ofBits .f32 (IntOp.shli .vector (IntOp.subi 127#32 (expS x)) 23#32)

/-- The same step on natural numbers. -/
def stepN (x : EReal) (f s : ℕ) : ℕ := if P (min (f + s) 252) ≤ x then min (f + s) 252 else f

/-- A step of the search on words is the step on natural numbers. -/
theorem stepS_eq (x : Ideal .f32) (f s : ℕ) (hf : f ≤ 252) (hs : 1 ≤ s) (hs' : s ≤ 128) :
    stepS x (BitVec.ofNat 32 f) (BitVec.ofNat 32 s) = BitVec.ofNat 32 (stepN x f s) := by
  have hmin : IntOp.minsi (IntOp.addi (BitVec.ofNat 32 f) (BitVec.ofNat 32 s)) 252#32 = BitVec.ofNat 32 (min (f + s) 252) := by
    unfold IntOp.minsi IntOp.addi
    rw [← BitVec.ofNat_add]
    have e1 : (BitVec.ofNat 32 (f + s)).toInt = ((f + s : ℕ) : ℤ) := by
      rw [BitVec.toInt_eq_toNat_of_lt (by rw [BitVec.toNat_ofNat]; omega), BitVec.toNat_ofNat]; omega
    have e2 : (252#32 : BitVec 32).toInt = 252 := by decide
    have e3 : ((BitVec.ofNat 32 (f + s)).slt 252#32) = decide (f + s < 252) := by
      rw [BitVec.slt_eq_decide, e1, e2, decide_eq_decide]; omega
    rw [e3]
    by_cases h : f + s < 252
    · simp only [h, decide_true, if_true]; rw [min_eq_left h.le]
    · simp only [h, decide_false]; rw [min_eq_right (by omega)]; rfl
  unfold stepS
  rw [hmin]
  have hsh : IntOp.shli .vector (BitVec.ofNat 32 (min (f + s) 252)) 23#32 = BitVec.ofNat 32 (min (f + s) 252) <<< (23#32 : BitVec 32) := rfl
  rw [hsh]
  have hv : (FloatOps.ofBits .f32 (BitVec.ofNat 32 (min (f + s) 252) <<< (23#32 : BitVec 32)) : Ideal .f32) = P (min (f + s) 252) :=
    ofBits_field _ (by omega) (by omega)
  rw [hv]
  unfold stepN Scalar.select
  show (if BitVec.ofBool (decide (P (min (f + s) 252) ≤ x)) = 1 then _ else _) = _
  by_cases h : P (min (f + s) 252) ≤ x
  · simp [h]
  · simp [h]

/-- What the search keeps true: the field is reached and nothing `s` above it is. -/
def J (x : EReal) (f s : ℕ) : Prop := f ≤ 252 ∧ (f = 0 ∨ P f ≤ x) ∧ ∀ g, g ≤ 252 → f + s ≤ g → ¬P g ≤ x

/-- A step of half the width keeps the search's invariant. -/
theorem J_step (x : EReal) (f s s' : ℕ) (h2 : s' = 2 * s) (hs : 1 ≤ s) (h : J x f s') : J x (stepN x f s) s := by
  subst h2
  obtain ⟨h1, h3, h4⟩ := h
  unfold stepN
  by_cases hp : P (min (f + s) 252) ≤ x
  · rw [if_pos hp]
    refine ⟨min_le_right _ _, .inr hp, fun g hg hgs => ?_⟩
    by_cases hc : f + s ≤ 252
    · rw [min_eq_left hc] at hgs
      exact h4 g hg (by omega)
    · rw [min_eq_right (by omega)] at hgs; omega
  · rw [if_neg hp]
    refine ⟨h1, h3, fun g hg hgs hgx => hp ((P_mono ?_).trans hgx)⟩
    exact (min_le_left _ _).trans hgs

/-- The search finds the greatest field, at most 252, whose power of two `x` reaches. -/
theorem fieldS_spec (x : Ideal .f32) : ∃ f : ℕ, fieldS x = BitVec.ofNat 32 f ∧ J x f 1 := by
  have j0 : J x 0 256 := ⟨by omega, .inl rfl, fun g hg h => by omega⟩
  have j1 := J_step x _ 128 256 rfl (by omega) j0
  have j2 := J_step x _ 64 128 rfl (by omega) j1
  have j3 := J_step x _ 32 64 rfl (by omega) j2
  have j4 := J_step x _ 16 32 rfl (by omega) j3
  have j5 := J_step x _ 8 16 rfl (by omega) j4
  have j6 := J_step x _ 4 8 rfl (by omega) j5
  have j7 := J_step x _ 2 4 rfl (by omega) j6
  have j8 := J_step x _ 1 2 rfl (by omega) j7
  refine ⟨_, ?_, j8⟩
  unfold fieldS
  rw [show (0#32 : BitVec 32) = BitVec.ofNat 32 0 from rfl]
  rw [stepS_eq x _ 128 j0.1 (by omega) (by omega), stepS_eq x _ 64 j1.1 (by omega) (by omega),
    stepS_eq x _ 32 j2.1 (by omega) (by omega), stepS_eq x _ 16 j3.1 (by omega) (by omega),
    stepS_eq x _ 8 j4.1 (by omega) (by omega), stepS_eq x _ 4 j5.1 (by omega) (by omega),
    stepS_eq x _ 2 j6.1 (by omega) (by omega), stepS_eq x _ 1 j7.1 (by omega) (by omega)]

/-- The exponent a field means. -/
def E (f : ℕ) : ℤ := if f = 0 then 0 else (f : ℤ) - 126

/-- The scale and its inverse are the powers of two of the field's exponent. -/
theorem scaleS_eq (x : Ideal .f32) (f : ℕ) (hf : fieldS x = BitVec.ofNat 32 f) (h : f ≤ 252) :
    scaleS x = (((2 : ℝ) ^ E f : ℝ) : EReal) ∧ invS x = (((2 : ℝ) ^ (-E f) : ℝ) : EReal) := by
  unfold scaleS invS expS
  rw [hf]
  by_cases h0 : f = 0
  · subst h0
    have e : Scalar.select (IntOp.cmpi .eq (BitVec.ofNat 32 0) 0#32) 0#32 (IntOp.subi (BitVec.ofNat 32 0) 126#32) = 0#32 := by decide
    rw [e]
    have hP : (((2 : ℝ) ^ (0 : ℤ) : ℝ) : EReal) = P 127 := by unfold P; norm_num
    constructor
    · show Ideal.ofBits .f32 (BitVec.ofNat 32 127 <<< (23#32 : BitVec 32)) = _
      rw [ofBits_field _ (by omega) (by omega), ← hP]; rfl
    · show Ideal.ofBits .f32 (BitVec.ofNat 32 127 <<< (23#32 : BitVec 32)) = _
      rw [ofBits_field _ (by omega) (by omega), ← hP]; rfl
  · have e : Scalar.select (IntOp.cmpi .eq (BitVec.ofNat 32 f) 0#32) 0#32 (IntOp.subi (BitVec.ofNat 32 f) 126#32)
        = BitVec.ofNat 32 f - 126#32 := by
      have hne : BitVec.ofNat 32 f ≠ 0#32 := by
        intro hh
        have := congrArg BitVec.toNat hh
        rw [BitVec.toNat_ofNat, BitVec.toNat_ofNat] at this
        omega
      unfold Scalar.select IntOp.cmpi IntOp.subi
      have hb : (BitVec.ofNat 32 f == 0#32) = false := beq_eq_false_iff_ne.mpr hne
      simp [hb]
    rw [e]
    have ha : IntOp.addi (BitVec.ofNat 32 f - 126#32) 127#32 = BitVec.ofNat 32 (f + 1) := by
      unfold IntOp.addi
      apply BitVec.eq_of_toNat_eq
      simp only [BitVec.toNat_add, BitVec.toNat_sub, BitVec.toNat_ofNat]
      omega
    have hb : IntOp.subi 127#32 (BitVec.ofNat 32 f - 126#32) = BitVec.ofNat 32 (253 - f) := by
      unfold IntOp.subi
      apply BitVec.eq_of_toNat_eq
      simp only [BitVec.toNat_sub, BitVec.toNat_ofNat]
      omega
    rw [ha, hb]
    have hE : E f = (f : ℤ) - 126 := if_neg h0
    constructor
    · show Ideal.ofBits .f32 (BitVec.ofNat 32 (f + 1) <<< (23#32 : BitVec 32)) = _
      rw [ofBits_field _ (by omega) (by omega), hE]
      unfold P
      congr 2
      push_cast; ring
    · show Ideal.ofBits .f32 (BitVec.ofNat 32 (253 - f) <<< (23#32 : BitVec 32)) = _
      rw [ofBits_field _ (by omega) (by omega), hE]
      unfold P
      congr 2
      omega

/-! ## The exponent by the logarithm -/

/-- The literal 2. -/
theorem two_lit : Ideal.ofBits .f32 0x40000000#32 = ((2 : ℝ) : EReal) := by
  rw [show (0x40000000#32 : BitVec 32) = BitVec.ofNat 32 128 <<< (23#32 : BitVec 32) from by decide, ofBits_field _ (by omega) (by omega)]
  unfold P; norm_num
/-- The literal 1. -/
theorem one_lit : Ideal.ofBits .f32 0x3F800000#32 = ((1 : ℝ) : EReal) := by
  rw [show (0x3F800000#32 : BitVec 32) = BitVec.ofNat 32 127 <<< (23#32 : BitVec 32) from by decide, ofBits_field _ (by omega) (by omega)]
  unfold P; norm_num
/-- The literal 2^-126, the least normal number. -/
theorem tiny_lit : Ideal.ofBits .f32 0x00800000#32 = P 1 := by
  rw [show (0x00800000#32 : BitVec 32) = BitVec.ofNat 32 1 <<< (23#32 : BitVec 32) from by decide, ofBits_field _ (by omega) (by omega)]
/-- The literal 126. -/
theorem cap_lit : Ideal.ofBits .f32 0x42FC0000#32 = ((126 : ℝ) : EReal) := by
  have h1 : ((0x42FC0000#32 : BitVec 32).extractLsb' (8 + 23) 1 == 1#1) = false := by decide
  have h2 : ((0x42FC0000#32 : BitVec 32).extractLsb' 23 8).toNat = 133 := by decide
  have h3 : ((0x42FC0000#32 : BitVec 32).extractLsb' 0 23).toNat = 0x7C0000 := by decide
  simp only [Ideal.ofBits, Ideal.ieee, h1, h2, h3]
  norm_num

/-- The exponent stated by the logarithm: of the least power of two above `x`, zero below the normal range, at most 126. -/
def expR (x : Ideal .f32) : Ideal .f32 :=
  Scalar.select (FloatOps.cmpf .olt x (FloatOps.ofBits .f32 0x00800000#32)) (FloatOps.ofBits .f32 0x00000000#32)
    (FloatOps.minimumf (FloatOps.addf (FloatOps.floor (FloatOps.divf (FloatOps.log x) (FloatOps.log (FloatOps.ofBits .f32 0x40000000#32)))) (FloatOps.ofBits .f32 0x3F800000#32)) (FloatOps.ofBits .f32 0x42FC0000#32))

/-- The exponent by the logarithm, in operations on extended reals. -/
theorem expR_unfold (x : Ideal .f32) : expR x = if x < P 1 then 0
    else min (Ideal.liftRound Int.floor (Ideal.div (Ideal.log x) ((Real.log 2 : ℝ) : EReal)) + ((1 : ℝ) : EReal)) ((126 : ℝ) : EReal) := by
  unfold expR
  have e2 : (FloatOps.log (FloatOps.ofBits .f32 0x40000000#32 : Ideal .f32)) = ((Real.log 2 : ℝ) : EReal) := by
    show Ideal.log (Ideal.ofBits .f32 0x40000000#32) = _
    rw [two_lit]
    show (if (2 : ℝ) ≤ 0 then ⊥ else _) = _
    rw [if_neg (by norm_num)]
  rw [e2]
  show Scalar.select (BitVec.ofBool (decide (x < Ideal.ofBits .f32 0x00800000#32))) (Ideal.ofBits .f32 0x00000000#32)
    (min (Ideal.liftRound Int.floor (Ideal.div (Ideal.log x) ((Real.log 2 : ℝ) : EReal)) + Ideal.ofBits .f32 0x3F800000#32) (Ideal.ofBits .f32 0x42FC0000#32)) = _
  rw [tiny_lit, one_lit, cap_lit, Ideal.ofBits_zero_f32]
  unfold Scalar.select
  by_cases h : x < P 1 <;> simp [h]

/-- The exponent by the logarithm is the exponent of the field that the search finds. -/
theorem expR_eq (x : Ideal .f32) (f : ℕ) (h : J x f 1) : expR x = ((E f : ℝ) : EReal) := by
  obtain ⟨hf, h0, hg⟩ := h
  rw [expR_unfold]
  by_cases hx : x < P 1
  · rw [if_pos hx]
    have hf0 : f = 0 := by
      by_contra hne
      have hP : P f ≤ x := h0.resolve_left hne
      exact absurd ((P_mono (by omega : 1 ≤ f)).trans hP) (not_le.mpr hx)
    subst hf0
    simp [E]
  · rw [if_neg hx]
    have hx' : P 1 ≤ x := not_lt.mp hx
    have hl2 : 0 < Real.log 2 := Real.log_pos (by norm_num)
    have hl2' : ((Real.log 2 : ℝ) : EReal) ≠ 0 := by
      intro hh; exact hl2.ne' (EReal.coe_eq_zero.mp hh)
    have hf1 : 1 ≤ f := by
      by_contra hne
      exact hg 1 (by omega) (by omega) hx'
    have hE : E f = (f : ℤ) - 126 := if_neg (by omega)
    induction x using EReal.rec with
    | bot => exact absurd hx' (by unfold P; exact not_le.mpr (EReal.bot_lt_coe _))
    | top =>
      have hf252 : f = 252 := by
        by_contra hne
        exact hg 252 (by omega) (by omega) le_top
      have e1 : Ideal.log (⊤ : EReal) = ⊤ := rfl
      have e2 : Ideal.div (⊤ : EReal) ((Real.log 2 : ℝ) : EReal) = ⊤ := by
        unfold Ideal.div
        rw [if_neg hl2', ← EReal.coe_inv]
        exact EReal.top_mul_coe_of_pos (inv_pos.mpr hl2)
      rw [e1, e2]
      have e3 : Ideal.liftRound Int.floor (⊤ : EReal) = ⊤ := rfl
      rw [e3, EReal.top_add_coe, min_eq_right le_top, hE, hf252]
      norm_num
    | coe r =>
      have hr1 : (2 : ℝ) ^ (-126 : ℤ) ≤ r := by
        have := EReal.coe_le_coe_iff.mp hx'
        simpa using this
      have hr0 : 0 < r := lt_of_lt_of_le (by positivity) hr1
      have e1 : Ideal.log (r : EReal) = ((Real.log r : ℝ) : EReal) := by
        show (if r ≤ 0 then ⊥ else _) = _
        rw [if_neg (by linarith)]
      have e2 : Ideal.div ((Real.log r : ℝ) : EReal) ((Real.log 2 : ℝ) : EReal) = ((Real.log r / Real.log 2 : ℝ) : EReal) := by
        unfold Ideal.div
        rw [if_neg hl2', ← EReal.coe_inv, ← EReal.coe_mul, div_eq_mul_inv]
      rw [e1, e2]
      have e3 : Ideal.liftRound Int.floor ((Real.log r / Real.log 2 : ℝ) : EReal) = (((⌊Real.log r / Real.log 2⌋ : ℤ) : ℝ) : EReal) := rfl
      rw [e3, ← EReal.coe_add, hE]
      have key : ∀ z : ℤ, (2 : ℝ) ^ z ≤ r ↔ z ≤ ⌊Real.log r / Real.log 2⌋ := fun z => by
        rw [Int.le_floor, le_div_iff₀ hl2, ← Real.log_zpow, Real.log_le_log_iff (by positivity) hr0]
      have hPk : ∀ g : ℕ, P g ≤ (r : EReal) ↔ (g : ℤ) - 127 ≤ ⌊Real.log r / Real.log 2⌋ := fun g => by
        unfold P; rw [EReal.coe_le_coe_iff]; exact key _
      generalize ⌊Real.log r / Real.log 2⌋ = n at hPk
      have hfn : (f : ℤ) - 127 ≤ n := (hPk f).mp (h0.resolve_left (by omega))
      have hmin : ∀ a b : ℝ, min (a : EReal) (b : EReal) = ((min a b : ℝ) : EReal) := fun a b => by
        rcases le_total a b with h | h
        · rw [min_eq_left h, min_eq_left (EReal.coe_le_coe_iff.mpr h)]
        · rw [min_eq_right h, min_eq_right (EReal.coe_le_coe_iff.mpr h)]
      rw [hmin]
      congr 1
      by_cases hc : f = 252
      · subst hc
        have : (125 : ℤ) ≤ n := by omega
        have : (125 : ℝ) ≤ (n : ℝ) := by exact_mod_cast this
        rw [min_eq_right (by linarith)]
        norm_num
      · have hn : ¬((f + 1 : ℕ) : ℤ) - 127 ≤ n := fun hh => hg (f + 1) (by omega) le_rfl ((hPk _).mpr hh)
        have hn' : n = (f : ℤ) - 127 := by push_cast at hn; omega
        subst hn'
        have : (f : ℝ) ≤ 251 := by exact_mod_cast (by omega : f ≤ 251)
        push_cast
        rw [min_eq_left (by linarith)]
        ring

/-- The searched scale is two to the stated exponent, -/
theorem scaleS_eq_exp2 (x : Ideal .f32) : scaleS x = FloatOps.exp2 (expR x) := by
  obtain ⟨f, hf, hJ⟩ := fieldS_spec x
  rw [(scaleS_eq x f hf hJ.1).1, expR_eq x f hJ]
  show _ = ((Real.rpow 2 (E f : ℝ) : ℝ) : EReal)
  congr 1
  exact (Real.rpow_intCast 2 (E f)).symm

/-- and its inverse two to the exponent's negative. -/
theorem invS_eq_exp2 (x : Ideal .f32) : invS x = FloatOps.exp2 (FloatOps.subf (FloatOps.ofBits .f32 0x00000000#32) (expR x)) := by
  obtain ⟨f, hf, hJ⟩ := fieldS_spec x
  rw [(scaleS_eq x f hf hJ.1).2, expR_eq x f hJ]
  have e : (FloatOps.subf (FloatOps.ofBits .f32 0x00000000#32) ((E f : ℝ) : EReal) : Ideal .f32) = (((-E f : ℤ) : ℝ) : EReal) := by
    show Ideal.ofBits .f32 0x00000000#32 - ((E f : ℝ) : EReal) = _
    rw [Ideal.ofBits_zero_f32, zero_sub, ← EReal.coe_neg]
    push_cast; rfl
  rw [e]
  show _ = ((Real.rpow 2 ((-E f : ℤ) : ℝ) : ℝ) : EReal)
  congr 1
  exact (Real.rpow_intCast 2 (-E f)).symm

end Cert.Pow2

end
-- ==== Proof.Spec.lean ====
/- The mathematics of one window, cell by cell: the first layer, the gelu, the quantiser, the second layer. -/
module

public import proofs.«01_k».proof.Proof.Pow2
public import Idealize.ShloMosaic.Lib.Pointwise

@[expose] public section

set_option maxRecDepth 16384

noncomputable section

namespace Cert.Mlp

open Idealize.ShloMosaic

/-- A reading of a row of the operand: 128 central columns of every part, then its 32 window columns. -/
def win (x : Fin 5120 → EReal) (p : Fin 32) (d : Fin 160) : EReal :=
  if h : d.val < 128 then x ⟨p.val * 128 + d.val, by omega⟩ else x ⟨4096 + (p.val * 32 + (d.val - 128)), by omega⟩

/-- The first layer before the nonlinearity. -/
def pre (x : Fin 5120 → EReal) (w : Fin 32 → Fin 160 → EReal) (s b : EReal) : EReal :=
  (∑ k : Fin 5120, win x ⟨k.val / 160, by omega⟩ ⟨k.val % 160, by omega⟩ * w ⟨k.val / 160, by omega⟩ ⟨k.val % 160, by omega⟩) * s + b

/-- The gelu, by the error function. -/
def gelu (z : EReal) : EReal :=
  (Ideal.ofBits .f32 0x3F000000#32 * z) * (1 + FloatOps.erf (F := Ideal) (φ := .f32) (z * Ideal.ofBits .f32 0x3F3504F3#32))

/-- The hidden cell. -/
def hidden (x : Fin 5120 → EReal) (w : Fin 32 → Fin 160 → EReal) (s b : EReal) : EReal := gelu (pre x w s b)

/-- The largest magnitude of a row. -/
def amax {n : ℕ} (h : Fin n → EReal) : EReal :=
  (Finset.univ : Finset (Fin n)).fold max (Ideal.ofBits .f32 0xFF800000#32) (fun k => FloatOps.absf (F := Ideal) (φ := .f32) (h k))

/-- The power of two a row of largest magnitude `a` is divided by. -/
def scale (a : EReal) : EReal := FloatOps.exp2 (F := Ideal) (φ := .f32) (Pow2.expR (a * Ideal.ofBits .f32 0x3B124925#32))

/-- Its inverse. -/
def inv (a : EReal) : EReal :=
  FloatOps.exp2 (F := Ideal) (φ := .f32) (FloatOps.subf (F := Ideal) (φ := .f32) (FloatOps.ofBits .f32 0x00000000#32) (Pow2.expR (a * Ideal.ofBits .f32 0x3B124925#32)))

/-- A cell's code. -/
def code (a v : EReal) : EReal := min (Ideal.ofBits .f32 0x43E00000#32) (max (Ideal.ofBits .f32 0xC3E00000#32) (v * inv a))

/-- The second layer's cell, of the quantised hidden row. -/
def out (H : Fin 8192 → EReal) (w2 : Fin 8192 → EReal) (s2 b2 : EReal) : EReal :=
  (∑ k, code (amax H) (H k) * w2 k) * scale (amax H) * s2 + b2

/-! ## Regrouping -/

/-- The first layer's sum by central and window columns. -/
theorem sum_win (x : Fin 5120 → EReal) (w : Fin 32 → Fin 160 → EReal) :
    (∑ k : Fin 4096, x ⟨k.val, by omega⟩ * w ⟨k.val / 128, by omega⟩ ⟨k.val % 128, by omega⟩)
      + (∑ k : Fin 1024, x ⟨4096 + k.val, by omega⟩ * w ⟨k.val / 32, by omega⟩ ⟨128 + k.val % 32, by omega⟩)
    = ∑ k : Fin 5120, win x ⟨k.val / 160, by omega⟩ ⟨k.val % 160, by omega⟩ * w ⟨k.val / 160, by omega⟩ ⟨k.val % 160, by omega⟩ := by
  rw [Fin.sum_univ_tiles 32 128 rfl (fun k : Fin 4096 => x ⟨k.val, by omega⟩ * w ⟨k.val / 128, by omega⟩ ⟨k.val % 128, by omega⟩),
    Fin.sum_univ_tiles 32 32 rfl (fun k : Fin 1024 => x ⟨4096 + k.val, by omega⟩ * w ⟨k.val / 32, by omega⟩ ⟨128 + k.val % 32, by omega⟩),
    Fin.sum_univ_tiles 32 160 rfl (fun k : Fin 5120 => win x ⟨k.val / 160, by omega⟩ ⟨k.val % 160, by omega⟩ * w ⟨k.val / 160, by omega⟩ ⟨k.val % 160, by omega⟩),
    ← Finset.sum_add_distrib]
  refine Finset.sum_congr rfl fun p _ => ?_
  have hp := p.isLt
  rw [Fin.sum_univ_two_halves 128 32 rfl]
  refine congrArg₂ (· + ·) (Finset.sum_congr rfl fun d _ => ?_) (Finset.sum_congr rfl fun d _ => ?_)
  · have hd := d.isLt
    have e1 : (p.val * 128 + d.val) / 128 = p.val := by omega
    have e2 : (p.val * 128 + d.val) % 128 = d.val := by omega
    have e3 : (p.val * 160 + d.val) / 160 = p.val := by omega
    have e4 : (p.val * 160 + d.val) % 160 = d.val := by omega
    simp only [e1, e2, e3, e4, win, hd, ↓reduceDIte]
  · have hd := d.isLt
    have e1 : (p.val * 32 + d.val) / 32 = p.val := by omega
    have e2 : (p.val * 32 + d.val) % 32 = d.val := by omega
    have e3 : (p.val * 160 + (128 + d.val)) / 160 = p.val := by omega
    have e4 : (p.val * 160 + (128 + d.val)) % 160 = 128 + d.val := by omega
    have e5 : ¬ (128 + d.val < 128) := by omega
    have e6 : 128 + d.val - 128 = d.val := by omega
    simp only [e1, e2, e3, e4, win, e5, e6, ↓reduceDIte]

/-- A row's largest magnitude is the least bound of its magnitudes. -/
theorem amax_le {n : ℕ} (h : Fin n → EReal) (c : EReal) :
    amax h ≤ c ↔ Ideal.ofBits .f32 0xFF800000#32 ≤ c ∧ ∀ k, FloatOps.absf (F := Ideal) (φ := .f32) (h k) ≤ c := by
  unfold amax
  rw [Finset.fold_max_le]
  simp

/-- A row reduction of a matrix: the fold of its row. -/
theorem rowMax {n k : ℕ} (h : (⟨2, ![n, k]⟩ : Shape).Reduces [1] ⟨1, ![n]⟩) (v : FVec Ideal ⟨2, ![n, k]⟩ .f32) (b : BitVec 32) (hk he) (i : Fin n) :
    multiReduction (F := Ideal) .maximumf [1] ⟨1, ![n]⟩ v b h hk he (ix1 i)
      = (Finset.univ : Finset (Fin k)).fold max (Ideal.ofBits .f32 b) (fun j => v (ix2 i j)) := by
  rw [multiReduction_maximumf_eq_fold]
  exact (Shape.Reduces.fold_fiber_r2_a1 h _ max _ v)

/-- A column reduction of a matrix: the fold of its column. -/
theorem colMax {n k : ℕ} (h : (⟨2, ![n, k]⟩ : Shape).Reduces [0] ⟨1, ![k]⟩) (v : FVec Ideal ⟨2, ![n, k]⟩ .f32) (b : BitVec 32) (hk he) (i : Fin k) :
    multiReduction (F := Ideal) .maximumf [0] ⟨1, ![k]⟩ v b h hk he (ix1 i)
      = (Finset.univ : Finset (Fin n)).fold max (Ideal.ofBits .f32 b) (fun j => v (ix2 j i)) := by
  rw [multiReduction_maximumf_eq_fold]
  exact (Shape.Reduces.fold_fiber_r2_a0 h _ max _ v)

/-! ## The results, over the operands -/

/-- The hidden row of row `r` of window `g`. -/
def Hrow (x : (⟨3, ![6, 4096, 5120]⟩ : Shape).Idx → EReal) (w1 : (⟨3, ![32, 160, 8192]⟩ : Shape).Idx → EReal)
    (s1 b1 : (⟨1, ![8192]⟩ : Shape).Idx → EReal) (g : Fin 6) (r : Fin 4096) (n : Fin 8192) : EReal :=
  hidden (fun k => x (ix3 g r k)) (fun p d => w1 (ix3 p d n)) (s1 (ix1 n)) (b1 (ix1 n))

/-- The second layer's row. -/
def Crow (x : (⟨3, ![6, 4096, 5120]⟩ : Shape).Idx → EReal) (w1 : (⟨3, ![32, 160, 8192]⟩ : Shape).Idx → EReal)
    (s1 b1 : (⟨1, ![8192]⟩ : Shape).Idx → EReal) (w2 : (⟨2, ![8192, 160]⟩ : Shape).Idx → EReal) (s2 b2 : (⟨1, ![160]⟩ : Shape).Idx → EReal)
    (g : Fin 6) (r : Fin 4096) (o : Fin 160) : EReal :=
  out (Hrow x w1 s1 b1 g r) (fun n => w2 (ix2 n o)) (s2 (ix1 o)) (b2 (ix1 o))

/-- The window a block and a head name. -/
def gOf (a : Fin 3) (b : Fin 2) : Fin 6 := ⟨a.val * 2 + b.val, by omega⟩

/-- A row of a result without the last row. -/
def rOf (r : Fin 4095) : Fin 4096 := ⟨r.val, by omega⟩

/-- The hidden codes. -/
def HC (x : (⟨3, ![6, 4096, 5120]⟩ : Shape).Idx → EReal) (w1 : (⟨3, ![32, 160, 8192]⟩ : Shape).Idx → EReal)
    (s1 b1 : (⟨1, ![8192]⟩ : Shape).Idx → EReal) (a : Fin 3) (b : Fin 2) (r : Fin 4096) (n : Fin 8192) : EReal :=
  code (amax (Hrow x w1 s1 b1 (gOf a b) r)) (Hrow x w1 s1 b1 (gOf a b) r n)

/-- The hidden scales. -/
def HS (x : (⟨3, ![6, 4096, 5120]⟩ : Shape).Idx → EReal) (w1 : (⟨3, ![32, 160, 8192]⟩ : Shape).Idx → EReal)
    (s1 b1 : (⟨1, ![8192]⟩ : Shape).Idx → EReal) (a : Fin 3) (b : Fin 2) (r : Fin 4096) : EReal :=
  scale (amax (Hrow x w1 s1 b1 (gOf a b) r))

/-- The second layer's codes. -/
def CK (x : (⟨3, ![6, 4096, 5120]⟩ : Shape).Idx → EReal) (w1 : (⟨3, ![32, 160, 8192]⟩ : Shape).Idx → EReal)
    (s1 b1 : (⟨1, ![8192]⟩ : Shape).Idx → EReal) (w2 : (⟨2, ![8192, 160]⟩ : Shape).Idx → EReal) (s2 b2 : (⟨1, ![160]⟩ : Shape).Idx → EReal)
    (a : Fin 3) (b : Fin 2) (r : Fin 4096) (o : Fin 160) : EReal :=
  code (amax (Crow x w1 s1 b1 w2 s2 b2 (gOf a b) r)) (Crow x w1 s1 b1 w2 s2 b2 (gOf a b) r o)

/-- The second layer's scales. -/
def CKS (x : (⟨3, ![6, 4096, 5120]⟩ : Shape).Idx → EReal) (w1 : (⟨3, ![32, 160, 8192]⟩ : Shape).Idx → EReal)
    (s1 b1 : (⟨1, ![8192]⟩ : Shape).Idx → EReal) (w2 : (⟨2, ![8192, 160]⟩ : Shape).Idx → EReal) (s2 b2 : (⟨1, ![160]⟩ : Shape).Idx → EReal)
    (a : Fin 3) (b : Fin 2) (r : Fin 4096) : EReal :=
  scale (amax (Crow x w1 s1 b1 w2 s2 b2 (gOf a b) r))

end Cert.Mlp

end
-- ==== Proof.Ideal.Cells.lean ====
/- The tile's vectors cell by cell, at the extended reals. -/
module

public import proofs.«01_k».proof.Proof.Ideal.Pieces
public import proofs.«01_k».proof.Proof.Spec
public import Idealize.ShloMosaic.Lib.Pipeline.ValueKit

@[expose] public section

set_option maxRecDepth 16384

noncomputable section

namespace Cert.KernelIdeal.Run

open Idealize.ShloMosaic Idealize.ShloMosaic.TcCoe Idealize.ShloMosaic.Tactic
open Cert.KernelIdeal.Gen Cert.Mlp

/-- The row maxima over 448, along the lanes. -/
theorem pay4_cell (mx : FVec Ideal S512x128 .f32) (r : Fin 512) (l : Fin 128) :
    k0_pay4 (F := Ideal) mx (ix2 r l)
      = (Finset.univ : Finset (Fin 128)).fold max (Ideal.ofBits .f32 0xFF800000#32) (fun a => mx (ix2 r a)) * Ideal.ofBits .f32 0x3B124925#32 := by
  pointwise [k0_pay4]

/-- The exponent is the search on the scaled maximum. -/
theorem eT_cell (mx : FVec Ideal S512x128 .f32) (i : S512x128.Idx) : eT (F := Ideal) mx i = Pow2.expS (k0_pay4 (F := Ideal) mx i) := rfl

/-- The inverse scale at a cell. -/
theorem invT_cell (mx : FVec Ideal S512x128 .f32) (i : S512x128.Idx) :
    invT (F := Ideal) mx i = FloatOps.exp2 (FloatOps.subf (FloatOps.ofBits .f32 0x00000000#32) (Pow2.expR (k0_pay4 (F := Ideal) mx i))) := by
  rw [← Pow2.invS_eq_exp2]
  rfl

/-- The scale at a cell of the row. -/
theorem rowT_cell (mx : FVec Ideal S512x128 .f32) (r : Fin 512) :
    rowT (F := Ideal) mx (ix2 0 r) = FloatOps.exp2 (Pow2.expR (k0_pay4 (F := Ideal) mx (ix2 r 0))) := by
  rw [← Pow2.scaleS_eq_exp2]
  unfold Pow2.scaleS
  rw [← eT_cell]
  unfold rowT
  generalize eT (F := Ideal) mx = e
  pointwise [k0_pay11, k0_pay9]

/-- A slice quantised, at a cell. -/
theorem qT_cell (iv : FVec Ideal S512x128 .f32) (s : FVec Ideal S1x512x512 .f32) (r q : Fin 512) :
    qT (F := Ideal) iv s (ix2 r q)
      = min (Ideal.ofBits .f32 0x43E00000#32) (max (Ideal.ofBits .f32 0xC3E00000#32) (s (ix3 0 r q) * iv (ix2 r ⟨q.val % 128, by omega⟩))) := by
  unfold qT
  pointwise [k0_pay31]
  have hq := q.isLt
  by_cases h1 : q.val < 128
  · blk_point []
  · blk_point []

/-- One step of the second product, at a cell. -/
theorem pay33_cell (acc : FVec Ideal S160x512 .f32) (q : FVec Ideal S512x512 .fp8e4m3) (w : FVec Ideal S160x512 .fp8e4m3) (o : Fin 160) (r : Fin 512) :
    k0_pay33 (F := Ideal) acc q w (ix2 o r) = acc (ix2 o r) + ∑ k : Fin 512, w (ix2 o k) * q (ix2 r k) := by
  pointwise [k0_pay33]

/-- The second product's sum starts at zero. -/
theorem pay13_cell (o : Fin 160) (r : Fin 512) : k0_pay13 (F := Ideal) (ix2 o r) = 0 := by
  pointwise [k0_pay13]

/-- A chunk of the second weight, at a cell. -/
theorem wT_cell (x5 : FVec Ideal S160x8192 .fp8e4m3) (n : ℕ) (hn : n < 16) (o : Fin 160) (k : Fin 512) :
    wT (F := Ideal) x5 n (ix2 o k) = x5 (ix2 o ⟨n * 512 + k.val, by omega⟩) := by
  unfold wT
  rw [View.ld_apply]
  refine congrArg x5 ?_
  funext a
  refine Fin.ext ?_
  fin_cases a
  · show 0 + 1 * o.val = o.val; omega
  · show 512 * (n % 16) + 1 * k.val = n * 512 + k.val
    rw [Nat.mod_eq_of_lt hn]; omega

/-- The second product after `n` chunks, at a cell. -/
theorem accT_cell (x5 : FVec Ideal S160x8192 .fp8e4m3) (q : ℕ → FVec Ideal S512x512 .fp8e4m3) (n : ℕ) (o : Fin 160) (r : Fin 512) :
    accT (F := Ideal) x5 q n (ix2 o r) = ∑ j : Fin n, ∑ k : Fin 512, wT (F := Ideal) x5 j.val (ix2 o k) * q j.val (ix2 r k) := by
  induction n with
  | zero => rw [accT, pay13_cell]; simp
  | succ n ih =>
    rw [accT, pay33_cell, ih, Fin.sum_univ_castSucc (n := n)]
    rfl

/-- The second layer's tile, at a cell. -/
theorem cT_cell (acc : FVec Ideal S160x512 .f32) (row : FVec Ideal S1x512 .f32) (x6 x7 : FVec Ideal S160x1 .f32) (o : Fin 160) (r : Fin 512) :
    cT (F := Ideal) acc row x6 x7 (ix2 o r) = acc (ix2 o r) * row (ix2 0 r) * x6 (ix2 o 0) + x7 (ix2 o 0) := by
  pointwise [cT]

/-- Its columns' maxima over 448, at a cell. -/
theorem mT_cell (v : FVec Ideal S160x512 .f32) (i : Fin 8) (r : Fin 512) :
    mT (F := Ideal) v (ix2 i r) = amax (fun o : Fin 160 => v (ix2 o r)) * Ideal.ofBits .f32 0x3B124925#32 := by
  unfold amax
  pointwise [mT]

/-- The second quantiser's scale and inverse, at a cell. -/
theorem sc2T_cell (x : FVec Ideal S8x512 .f32) (i : S8x512.Idx) : sc2T (F := Ideal) x i = FloatOps.exp2 (Pow2.expR (x i)) := by
  rw [← Pow2.scaleS_eq_exp2]
  rfl
/-- The second quantiser's inverse scale, at a cell. -/
theorem inv2T_cell (x : FVec Ideal S8x512 .f32) (i : S8x512.Idx) :
    inv2T (F := Ideal) x i = FloatOps.exp2 (FloatOps.subf (FloatOps.ofBits .f32 0x00000000#32) (Pow2.expR (x i))) := by
  rw [← Pow2.invS_eq_exp2]
  rfl

/-- The second layer quantised, at a cell. -/
theorem pay2_cell (v : FVec Ideal S160x512 .f32) (iv : FVec Ideal S8x512 .f32) (o : Fin 160) (r : Fin 512) :
    k0_pay2 (F := Ideal) v iv (ix4 0 0 o r)
      = min (Ideal.ofBits .f32 0x43E00000#32) (max (Ideal.ofBits .f32 0xC3E00000#32) (v (ix2 o r) * iv (ix2 0 r))) := by
  pointwise [k0_pay2]

/-- The second layer's scales, as stored, are the first row of the scales. -/
theorem pay3_cell (s : FVec Ideal S8x512 .f32) (r : Fin 512) : k0_pay3 (F := Ideal) s (ix4 0 0 0 r) = s (ix2 0 r) := by
  pointwise [k0_pay3]

/-! ## A chunk of the hidden layer -/

/-- The gelu of a chunk, at a cell. -/
theorem pay97_cell (v0 : FVec Ideal S1x512x4096 .bf16) (v2 : FVec Ideal S32x128x512 .fp8e4m3) (v5 : FVec Ideal S1x512x1024 .bf16) (v7 : FVec Ideal S32x32x512 .fp8e4m3) (v11 v15 : FVec Ideal S1x512 .f32) (r q : Fin 512) :
    k0_pay97 (F := Ideal) v0 v2 v5 v7 v11 v15 (ix2 r q)
      = gelu (((∑ k : Fin 4096, v0 (ix3 0 r k) * v2 (ix3 ⟨k.val / 128, by omega⟩ ⟨k.val % 128, by omega⟩ q))
          + (∑ k : Fin 1024, v5 (ix3 0 r k) * v7 (ix3 ⟨k.val / 32, by omega⟩ ⟨k.val % 32, by omega⟩ q))) * v11 (ix2 0 q) + v15 (ix2 0 q)) := by
  unfold gelu
  pointwise [k0_pay97]

/-- The maxima of a chunk over its four lane groups. -/
def cmax (v : FVec Ideal S512x512 .f32) (r : Fin 512) (l : Fin 128) : EReal :=
  max (max (FloatOps.absf (F := Ideal) (φ := .f32) (v (ix2 r ⟨l.val, by omega⟩))) (FloatOps.absf (F := Ideal) (φ := .f32) (v (ix2 r ⟨128 + l.val, by omega⟩))))
    (max (FloatOps.absf (F := Ideal) (φ := .f32) (v (ix2 r ⟨256 + l.val, by omega⟩))) (FloatOps.absf (F := Ideal) (φ := .f32) (v (ix2 r ⟨384 + l.val, by omega⟩))))

/-- The running maxima, at a cell. -/
theorem pay1_cell (b : BitVec 32) (v0 : FVec Ideal S1x512x4096 .bf16) (v2 : FVec Ideal S32x128x512 .fp8e4m3) (v5 : FVec Ideal S1x512x1024 .bf16) (v7 : FVec Ideal S32x32x512 .fp8e4m3) (v11 v15 : FVec Ideal S1x512 .f32) (v40 : FVec Ideal S512x128 .f32) (r : Fin 512) (l : Fin 128) :
    k0_pay1 (F := Ideal) b (k0_pay99 (F := Ideal) v0 v2 v5 v7 v11 v15) (k0_pay100 (F := Ideal) v0 v2 v5 v7 v11 v15) (k0_pay101 (F := Ideal) v0 v2 v5 v7 v11 v15) v40 (ix2 r l)
      = Scalar.select (Scalar.cmpi .eq b 0#32) (cmax (k0_pay97 (F := Ideal) v0 v2 v5 v7 v11 v15) r l) (max (v40 (ix2 r l)) (cmax (k0_pay97 (F := Ideal) v0 v2 v5 v7 v11 v15) r l)) := by
  unfold cmax k0_pay100 k0_pay101 k0_pay99
  generalize k0_pay97 (F := Ideal) v0 v2 v5 v7 v11 v15 = v
  pointwise [k0_pay1]
  try rfl

end Cert.KernelIdeal.Run

end
-- ==== Proof.Ideal.Blocks.lean ====
/- The input blocks at a grid point, as cells of the argument arrays. -/
module

public import proofs.«01_k».proof.Proof.Ideal.Cells

@[expose] public section

set_option maxRecDepth 16384

noncomputable section

namespace Cert.KernelIdeal.Run

open Idealize.ShloMosaic Idealize.ShloMosaic.TcCoe Idealize.ShloMosaic.Tactic
open Cert.KernelIdeal Cert.KernelIdeal.Gen Cert.Mlp

variable (m : (ℓ : Loc nD τ sig) → Buf (Elt Ideal) ℓ)

/-- The arguments on a device. -/
abbrev xA (c : Dev nD) : S6x4096x5120.Idx → EReal := m ((c : Thread nD τ).loc main_arg0)
abbrev w1A (c : Dev nD) : S32x160x8192.Idx → EReal := m ((c : Thread nD τ).loc main_arg1)
abbrev s1A (c : Dev nD) : S8192.Idx → EReal := m ((c : Thread nD τ).loc main_arg2)
abbrev b1A (c : Dev nD) : S8192.Idx → EReal := m ((c : Thread nD τ).loc main_arg3)
abbrev w2A (c : Dev nD) : S8192x160.Idx → EReal := m ((c : Thread nD τ).loc main_arg4)
abbrev s2A (c : Dev nD) : S160.Idx → EReal := m ((c : Thread nD τ).loc main_arg5)
abbrev b2A (c : Dev nD) : S160.Idx → EReal := m ((c : Thread nD τ).loc main_arg6)

/-! ## Block indices -/

/-- The block of window 0 at point `t`, from the tile number `t / 16` and the chunk `t % 16`. -/
theorem idx0 : ∀ t : Fin cfg0.N, win0_0.index t = ![t.val / 128, t.val / 16 % 8, 0] := (by decide +kernel : ∀ t : Fin grid0.N, _)
/-- The block of window 1 at point `t`, from the tile number `t / 16` and the chunk `t % 16`. -/
theorem idx1 : ∀ t : Fin cfg0.N, win0_1.index t = ![0, 0, t.val % 16] := (by decide +kernel : ∀ t : Fin grid0.N, _)
/-- The block of window 2 at point `t`, from the tile number `t / 16` and the chunk `t % 16`. -/
theorem idx2 : ∀ t : Fin cfg0.N, win0_2.index t = ![0, 4, t.val % 16] := (by decide +kernel : ∀ t : Fin grid0.N, _)
/-- The block of window 3 at point `t`, from the tile number `t / 16` and the chunk `t % 16`. -/
theorem idx3 : ∀ t : Fin cfg0.N, win0_3.index t = ![0, t.val % 16] := (by decide +kernel : ∀ t : Fin grid0.N, _)
/-- The block of window 4 at point `t`, from the tile number `t / 16` and the chunk `t % 16`. -/
theorem idx4 : ∀ t : Fin cfg0.N, win0_4.index t = ![0, t.val % 16] := (by decide +kernel : ∀ t : Fin grid0.N, _)
/-- The block of window 5 at point `t`, from the tile number `t / 16` and the chunk `t % 16`. -/
theorem idx5 : ∀ t : Fin cfg0.N, win0_5.index t = ![0, 0] := (by decide +kernel : ∀ t : Fin grid0.N, _)
/-- The block of window 6 at point `t`, from the tile number `t / 16` and the chunk `t % 16`. -/
theorem idx6 : ∀ t : Fin cfg0.N, win0_6.index t = ![0, 0] := (by decide +kernel : ∀ t : Fin grid0.N, _)
/-- The block of window 7 at point `t`, from the tile number `t / 16` and the chunk `t % 16`. -/
theorem idx7 : ∀ t : Fin cfg0.N, win0_7.index t = ![0, 0] := (by decide +kernel : ∀ t : Fin grid0.N, _)
/-- The block of window 8 at point `t`, from the tile number `t / 16` and the chunk `t % 16`. -/
theorem idx8 : ∀ t : Fin cfg0.N, win0_8.index t = ![t.val / 256, t.val / 128 % 2, t.val / 16 % 8, 0] := (by decide +kernel : ∀ t : Fin grid0.N, _)
/-- The block of window 9 at point `t`, from the tile number `t / 16` and the chunk `t % 16`. -/
theorem idx9 : ∀ t : Fin cfg0.N, win0_9.index t = ![t.val / 256, t.val / 128 % 2, 0, t.val / 16 % 8] := (by decide +kernel : ∀ t : Fin grid0.N, _)
/-- The block of window 10 at point `t`, from the tile number `t / 16` and the chunk `t % 16`. -/
theorem idx10 : ∀ t : Fin cfg0.N, win0_10.index t = ![t.val / 256, t.val / 128 % 2, 0, t.val / 16 % 8] := (by decide +kernel : ∀ t : Fin grid0.N, _)
/-- The block of window 11 at point `t`, from the tile number `t / 16` and the chunk `t % 16`. -/
theorem idx11 : ∀ t : Fin cfg0.N, win0_11.index t = ![t.val / 256, t.val / 128 % 2, 0, t.val / 16 % 8] := (by decide +kernel : ∀ t : Fin grid0.N, _)

/-- The grid has 768 points. -/
theorem lt768 (t : Fin cfg0.N) : t.val < 768 := lt_of_lt_of_eq t.isLt N_0

/-! ## The arrays as the region finds them -/

/-- The first layer's scales, as the row that the call reads. -/
theorem V_v0 (c : Dev nD) (n : Fin 8192) : (show S1x8192.Idx → EReal from V m c main_v0) (ix2 0 n) = s1A m c (ix1 n) := by
  show (V m c main_v0) (ix2 0 n) = _
  entry_read
  pointwise
/-- The first layer's biases, as the row that the call reads. -/
theorem V_v1 (c : Dev nD) (n : Fin 8192) : (show S1x8192.Idx → EReal from V m c main_v1) (ix2 0 n) = b1A m c (ix1 n) := by
  show (V m c main_v1) (ix2 0 n) = _
  entry_read
  pointwise
/-- The second weight, transposed as the call reads it. -/
theorem V_v2 (c : Dev nD) (o : Fin 160) (n : Fin 8192) : (show S160x8192.Idx → EReal from V m c main_v2) (ix2 o n) = w2A m c (ix2 n o) := by
  show (V m c main_v2) (ix2 o n) = _
  entry_read
  pointwise
/-- The second layer's scales, as the column that the call reads. -/
theorem V_v3 (c : Dev nD) (o : Fin 160) : (show S160x1.Idx → EReal from V m c main_v3) (ix2 o 0) = s2A m c (ix1 o) := by
  show (V m c main_v3) (ix2 o 0) = _
  entry_read
  pointwise
/-- The second layer's biases, as the column that the call reads. -/
theorem V_v4 (c : Dev nD) (o : Fin 160) : (show S160x1.Idx → EReal from V m c main_v4) (ix2 o 0) = b2A m c (ix1 o) := by
  show (V m c main_v4) (ix2 o 0) = _
  entry_read
  pointwise

/-! ## The blocks -/

/-- Input 0's block is the tile's rows of the windows. -/
theorem blk0 (c : Dev nD) (t : Fin cfg0.N) (g : Fin 6) (hg : g.val = t.val / 128) (r : Fin 512) (R : Fin 4096) (hR : R.val = t.val / 16 % 8 * 512 + r.val) (k : Fin 5120) :
    (show S1x512x5120.Idx → EReal from iblk m c 0 t) (ix3 0 r k) = xA m c (ix3 g R k) := by
  show iblk m c 0 t (ix3 0 r k) = _
  blk_point [iblk, V_main_arg0, idx0 t]
/-- Input 1's block is the chunk's columns of the first weight, channels 0..127. -/
theorem blk1 (c : Dev nD) (t : Fin cfg0.N) (p : Fin 32) (d : Fin 128) (D : Fin 160) (hD : D.val = d.val) (q : Fin 512) (n : Fin 8192) (hn : n.val = t.val % 16 * 512 + q.val) :
    (show S32x128x512.Idx → EReal from X0_1 m c t) (ix3 p d q) = w1A m c (ix3 p D n) := by
  show X0_1 m c t (ix3 p d q) = _
  unfold X0_1 Pipeline.Window.fill
  rw [dif_pos (moved0_1 t _)]
  blk_point [iblk, V_main_arg1, idx1 t]
/-- Input 2's block is the chunk's columns of the first weight, channels 128..159. -/
theorem blk2 (c : Dev nD) (t : Fin cfg0.N) (p : Fin 32) (d : Fin 32) (D : Fin 160) (hD : D.val = 128 + d.val) (q : Fin 512) (n : Fin 8192) (hn : n.val = t.val % 16 * 512 + q.val) :
    (show S32x32x512.Idx → EReal from iblk m c 2 t) (ix3 p d q) = w1A m c (ix3 p D n) := by
  show iblk m c 2 t (ix3 p d q) = _
  blk_point [iblk, V_main_arg1, idx2 t]
/-- Input 3's block is the chunk's part of the first layer's scales. -/
theorem blk3 (c : Dev nD) (t : Fin cfg0.N) (q : Fin 512) (n : Fin 8192) (hn : n.val = t.val % 16 * 512 + q.val) :
    (show S1x512.Idx → EReal from iblk m c 3 t) (ix2 0 q) = s1A m c (ix1 n) := by
  rw [← V_v0]
  show iblk m c 3 t (ix2 0 q) = _
  blk_point [iblk, idx3 t]
/-- Input 4's block is the chunk's part of the first layer's biases. -/
theorem blk4 (c : Dev nD) (t : Fin cfg0.N) (q : Fin 512) (n : Fin 8192) (hn : n.val = t.val % 16 * 512 + q.val) :
    (show S1x512.Idx → EReal from iblk m c 4 t) (ix2 0 q) = b1A m c (ix1 n) := by
  rw [← V_v1]
  show iblk m c 4 t (ix2 0 q) = _
  blk_point [iblk, idx4 t]
/-- Input 5's block is the second weight, transposed. -/
theorem blk5 (c : Dev nD) (t : Fin cfg0.N) (o : Fin 160) (n : Fin 8192) :
    (show S160x8192.Idx → EReal from iblk m c 5 t) (ix2 o n) = w2A m c (ix2 n o) := by
  rw [← V_v2]
  show iblk m c 5 t (ix2 o n) = _
  blk_point [iblk, idx5 t]
/-- Input 6's block is the second layer's scales. -/
theorem blk6 (c : Dev nD) (t : Fin cfg0.N) (o : Fin 160) :
    (show S160x1.Idx → EReal from iblk m c 6 t) (ix2 o 0) = s2A m c (ix1 o) := by
  rw [← V_v3]
  show iblk m c 6 t (ix2 o 0) = _
  blk_point [iblk, idx6 t]
/-- Input 7's block is the second layer's biases. -/
theorem blk7 (c : Dev nD) (t : Fin cfg0.N) (o : Fin 160) :
    (show S160x1.Idx → EReal from iblk m c 7 t) (ix2 o 0) = b2A m c (ix1 o) := by
  rw [← V_v4]
  show iblk m c 7 t (ix2 o 0) = _
  blk_point [iblk, idx7 t]

end Cert.KernelIdeal.Run

end
-- ==== Proof.Ideal.Tile.lean ====
/- What a row tile computes, as cells of the arguments: the hidden slices, the maxima, the codes and scales, the second layer. -/
module

public import proofs.«01_k».proof.Proof.Ideal.Blocks

@[expose] public section

set_option maxRecDepth 16384

noncomputable section

namespace Cert.KernelIdeal.Run

open Idealize.ShloMosaic Idealize.ShloMosaic.TcCoe Idealize.ShloMosaic.Tactic
open Cert.KernelIdeal Cert.KernelIdeal.Gen Cert.Mlp

/-- A chunk of the hidden layer, from the blocks. -/
def hid97 (x0 : FVec Ideal S1x512x5120 .bf16) (x1 : FVec Ideal S32x128x512 .fp8e4m3) (x2 : FVec Ideal S32x32x512 .fp8e4m3) (x3 x4 : FVec Ideal S1x512 .f32) : FVec Ideal S512x512 .f32 :=
  k0_pay97 (F := Ideal) (View.ld (Val := Elt Ideal) x0 (Rect.unit (s := S1x512x5120) ![0, 0, 0] S1x512x4096.size inb_S1x512x5120_S1x512x4096_0_0_0)) (View.ld (Val := Elt Ideal) x1 (Rect.unit (s := S32x128x512) ![0, 0, 0] S32x128x512.size inb_S32x128x512_S32x128x512_0_0_0)) (View.ld (Val := Elt Ideal) x0 (Rect.unit (s := S1x512x5120) ![0, 0, 4096] S1x512x1024.size inb_S1x512x5120_S1x512x1024_0_0_4096)) (View.ld (Val := Elt Ideal) x2 (Rect.unit (s := S32x32x512) ![0, 0, 0] S32x32x512.size inb_S32x32x512_S32x32x512_0_0_0)) (View.ld (Val := Elt Ideal) x3 (Rect.unit (s := S1x512) ![0, 0] S1x512.size inb_S1x512_S1x512_0_0)) (View.ld (Val := Elt Ideal) x4 (Rect.unit (s := S1x512) ![0, 0] S1x512.size inb_S1x512_S1x512_0_0))

/-- A cell of a chunk: gelu of the two partial products, scaled and with the bias added. -/
theorem hid97_cell (x0 : FVec Ideal S1x512x5120 .bf16) (x1 : FVec Ideal S32x128x512 .fp8e4m3) (x2 : FVec Ideal S32x32x512 .fp8e4m3) (x3 x4 : FVec Ideal S1x512 .f32) (r q : Fin 512) :
    hid97 x0 x1 x2 x3 x4 (ix2 r q)
      = gelu (((∑ k : Fin 4096, x0 (ix3 0 r ⟨k.val, by omega⟩) * x1 (ix3 ⟨k.val / 128, by omega⟩ ⟨k.val % 128, by omega⟩ q))
          + (∑ k : Fin 1024, x0 (ix3 0 r ⟨4096 + k.val, by omega⟩) * x2 (ix3 ⟨k.val / 32, by omega⟩ ⟨k.val % 32, by omega⟩ q))) * x3 (ix2 0 q) + x4 (ix2 0 q)) := by
  unfold hid97
  rw [pay97_cell]
  refine congrArg gelu ?_
  refine congrArg₂ (· + ·) (congrArg₂ (· * ·) (congrArg₂ (· + ·) (Finset.sum_congr rfl fun k _ => congrArg₂ (· * ·) ?_ ?_) (Finset.sum_congr rfl fun k _ => congrArg₂ (· * ·) ?_ ?_)) ?_) ?_ <;> first | (pointwise; done) | (pointwise; blk_ext)

/-- What a point stores to its hidden slice is the chunk. -/
theorem hidOf_cell (x0 : FVec Ideal S1x512x5120 .bf16) (x1 : FVec Ideal S32x128x512 .fp8e4m3) (x2 : FVec Ideal S32x32x512 .fp8e4m3) (x3 x4 : FVec Ideal S1x512 .f32) (r q : Fin 512) :
    hidOf (F := Ideal) x0 x1 x2 x3 x4 (ix3 0 r q) = hid97 x0 x1 x2 x3 x4 (ix2 r q) := by
  unfold hidOf k0_pay98
  change shapeCast S1x512x512 (hid97 x0 x1 x2 x3 x4) shapeCasts_S512x512_S1x512x512 (ix3 0 r q) = _
  generalize hid97 x0 x1 x2 x3 x4 = v
  pointwise

/-- The lane maxima after a point: the chunk's own on the first chunk, else the larger of those and the earlier ones. -/
theorem mxOf_cell (j : ℕ) (x0 : FVec Ideal S1x512x5120 .bf16) (x1 : FVec Ideal S32x128x512 .fp8e4m3) (x2 : FVec Ideal S32x32x512 .fp8e4m3) (x3 x4 : FVec Ideal S1x512 .f32) (xs : FVec Ideal S512x128 .f32) (r : Fin 512) (l : Fin 128) :
    mxOf (F := Ideal) j x0 x1 x2 x3 x4 xs (ix2 r l)
      = Scalar.select (Scalar.cmpi .eq (BitVec.ofNat 32 j) 0#32) (cmax (hid97 x0 x1 x2 x3 x4) r l) (max (xs (ix2 r l)) (cmax (hid97 x0 x1 x2 x3 x4) r l)) := by
  unfold mxOf
  rw [pay1_cell]
  have e : ∀ X : Vec Ideal S512x128 .f32, View.ld (Val := Elt Ideal) X (Rect.unit (s := S512x128) ![0, 0] S512x128.size inb_S512x128_S512x128_0_0) = X := fun X => View.ld_unit_zero (by decide) _ X
  rw [e]
  rfl

variable (m : (ℓ : Loc nD τ sig) → Buf (Elt Ideal) ℓ)

/-- The window and the row of the array that row `r` of point `t`'s tile is. -/
def gAt (t : Fin cfg0.N) : Fin 6 := ⟨t.val / 128, by have := lt768 t; omega⟩
def rAt (t : Fin cfg0.N) (r : Fin 512) : Fin 4096 := ⟨t.val / 16 % 8 * 512 + r.val, by omega⟩
/-- The hidden row of row `r` of point `t`'s tile. -/
abbrev Hat (c : Dev nD) (t : Fin cfg0.N) (r : Fin 512) : Fin 8192 → EReal := Hrow (xA m c) (w1A m c) (s1A m c) (b1A m c) (gAt t) (rAt t r)

/-- The chunk of point `t`. -/
def hc (c : Dev nD) (t : Fin cfg0.N) : FVec Ideal S512x512 .f32 := hid97 (iblk m c 0 t) (X0_1 m c t) (iblk m c 2 t) (iblk m c 3 t) (iblk m c 4 t)

/-- Point `t`'s chunk holds its 512 columns of the hidden rows. -/
theorem hc_cell (c : Dev nD) (t : Fin cfg0.N) (r q : Fin 512) (n : Fin 8192) (hn : n.val = t.val % 16 * 512 + q.val) :
    hc m c t (ix2 r q) = Hat m c t r n := by
  unfold hc
  rw [hid97_cell]
  unfold Hat Hrow Mlp.hidden pre
  have e := sum_win (fun k => xA m c (ix3 (gAt t) (rAt t r) k)) (fun p d => w1A m c (ix3 p d n))
  rw [← e]
  refine congrArg gelu ?_
  refine congrArg₂ (· + ·) (congrArg₂ (· * ·) (congrArg₂ (· + ·) (Finset.sum_congr rfl fun k _ => congrArg₂ (· * ·) ?_ ?_) (Finset.sum_congr rfl fun k _ => congrArg₂ (· * ·) ?_ ?_)) ?_) ?_
  · exact blk0 m c t (gAt t) rfl r (rAt t r) rfl _
  · exact blk1 m c t _ _ _ rfl q n hn
  · exact blk0 m c t (gAt t) rfl r (rAt t r) rfl _
  · exact blk2 m c t _ _ _ rfl q n hn
  · exact blk3 m c t q n hn
  · exact blk4 m c t q n hn

/-- A point number below 768 is its point's number. -/
theorem pt_lt (n : ℕ) (h : n < 768) : (pt n).val = n := Nat.mod_eq_of_lt h

/-- The points of one row tile work on the same rows. -/
theorem Hat_tile (c : Dev nD) (t : Fin cfg0.N) (k : ℕ) (hk : k < 16) (r : Fin 512) :
    Hat m c (pt (16 * (t.val / 16) + k)) r = Hat m c t r := by
  have h := lt768 t
  have e := pt_lt (16 * (t.val / 16) + k) (by omega)
  have e1 : gAt (pt (16 * (t.val / 16) + k)) = gAt t := Fin.ext (by show (pt _).val / 128 = t.val / 128; rw [e]; omega)
  have e2 : rAt (pt (16 * (t.val / 16) + k)) r = rAt t r := Fin.ext (by show (pt _).val / 16 % 8 * 512 + r.val = t.val / 16 % 8 * 512 + r.val; rw [e]; omega)
  unfold Hat
  rw [e1, e2]

/-- The chunk of the tile's point `k`. -/
theorem hc_tile (c : Dev nD) (t : Fin cfg0.N) (k : ℕ) (hk : k < 16) (r q : Fin 512) :
    hc m c (pt (16 * (t.val / 16) + k)) (ix2 r q) = Hat m c t r ⟨k * 512 + q.val, by omega⟩ := by
  have h := lt768 t
  have e := pt_lt (16 * (t.val / 16) + k) (by omega)
  rw [← Hat_tile m c t k hk r]
  exact hc_cell m c _ r q _ (by show k * 512 + q.val = (pt _).val % 16 * 512 + q.val; rw [e]; omega)

/-- Slice `k` of the tile's hidden scratch holds chunk `k` of the hidden rows. -/
theorem slAt_cell (c : Dev nD) (t : Fin cfg0.N) (k : ℕ) (hk : k < 16) (r q : Fin 512) :
    (show S1x512x512.Idx → EReal from slAt m c t k) (ix3 0 r q) = Hat m c t r ⟨k * 512 + q.val, by omega⟩ := by
  rw [← hc_tile m c t k hk r q]
  exact hidOf_cell _ _ _ _ _ r q

/-! ## The maxima -/

/-- The lane maxima after point `n`, from those before it. -/
theorem mxAt_succ (c : Dev nD) (n : ℕ) (r : Fin 512) (l : Fin 128) :
    (show S512x128.Idx → EReal from mxAt m c (n + 1)) (ix2 r l)
      = Scalar.select (Scalar.cmpi .eq (BitVec.ofNat 32 (n % 16)) 0#32) (cmax (hc m c (pt n)) r l) (max ((show S512x128.Idx → EReal from mxAt m c n) (ix2 r l)) (cmax (hc m c (pt n)) r l)) :=
  mxOf_cell (n % 16) _ _ _ _ _ _ r l

/-- The lane maxima after chunk `j` are at most `b` exactly when those of every chunk so far are. -/
theorem mxAt_le (c : Dev nD) (t : ℕ) (j : ℕ) (hj : j < 16) (r : Fin 512) (l : Fin 128) (b : EReal) :
    (show S512x128.Idx → EReal from mxAt m c (16 * t + j + 1)) (ix2 r l) ≤ b ↔ ∀ k, k ≤ j → cmax (hc m c (pt (16 * t + k))) r l ≤ b := by
  induction j with
  | zero =>
    rw [mxAt_succ]
    have e : Scalar.cmpi .eq (BitVec.ofNat 32 (16 * t % 16)) 0#32 = 1#1 := by
      rw [show 16 * t % 16 = 0 by omega]; decide
    rw [e]
    constructor
    · intro h k hk
      rw [Nat.le_zero.mp hk]
      exact h
    · intro h
      exact h 0 le_rfl
  | succ j ih =>
    rw [mxAt_succ]
    have e : Scalar.cmpi .eq (BitVec.ofNat 32 ((16 * t + (j + 1)) % 16)) 0#32 = 0#1 := by
      rw [show (16 * t + (j + 1)) % 16 = j + 1 by omega]
      have hd : ∀ a : Fin 16, a.val ≠ 0 → Scalar.cmpi .eq (BitVec.ofNat 32 a.val) 0#32 = 0#1 := by decide
      exact hd ⟨j + 1, hj⟩ (Nat.succ_ne_zero j)
    rw [e]
    have hs : ∀ a b : EReal, Scalar.select 0#1 a b = b := fun _ _ => rfl
    rw [hs, max_le_iff]
    have ih' := ih (by omega)
    rw [show 16 * t + (j + 1) = 16 * t + j + 1 by omega, ih']
    constructor
    · rintro ⟨h1, h2⟩ k hk
      rcases Nat.lt_or_eq_of_le hk with h | h
      · exact h1 k (by omega)
      · rw [h]; exact h2
    · intro h
      exact ⟨fun k hk => h k (by omega), h (j + 1) le_rfl⟩

/-- A chunk's lane maximum is at most `b` exactly when the magnitudes in its four lane groups are. -/
theorem cmax_le (v : FVec Ideal S512x512 .f32) (r : Fin 512) (l : Fin 128) (b : EReal) :
    cmax v r l ≤ b ↔ ∀ a : Fin 4, FloatOps.absf (F := Ideal) (φ := .f32) (v (ix2 r ⟨a.val * 128 + l.val, by omega⟩)) ≤ b := by
  unfold cmax
  rw [max_le_iff, max_le_iff, max_le_iff]
  constructor
  · rintro ⟨⟨h0, h1⟩, h2, h3⟩ a
    fin_cases a
    · simpa using h0
    · simpa using h1
    · simpa using h2
    · simpa using h3
  · intro h
    exact ⟨⟨by simpa using h 0, by simpa using h 1⟩, by simpa using h 2, by simpa using h 3⟩

/-- The lane maxima of a finished tile reduce to the row's largest magnitude. -/
theorem fold_mx (c : Dev nD) (t : Fin cfg0.N) (ht : t.val % 16 = 15) (r : Fin 512) :
    (Finset.univ : Finset (Fin 128)).fold max (Ideal.ofBits .f32 0xFF800000#32) (fun a => (show S512x128.Idx → EReal from mxAt m c (t.val + 1)) (ix2 r a)) = amax (Hat m c t r) := by
  refine eq_of_forall_ge_iff fun b => ?_
  rw [amax_le, Finset.fold_max_le]
  refine and_congr_right fun _ => ?_
  have key : ∀ l : Fin 128, (show S512x128.Idx → EReal from mxAt m c (t.val + 1)) (ix2 r l) ≤ b ↔ ∀ k, k ≤ 15 → ∀ a : Fin 4, FloatOps.absf (F := Ideal) (φ := .f32) (hc m c (pt (16 * (t.val / 16) + k)) (ix2 r ⟨a.val * 128 + l.val, by omega⟩)) ≤ b := by
    intro l
    have e : t.val + 1 = 16 * (t.val / 16) + 15 + 1 := by omega
    rw [e, mxAt_le m c (t.val / 16) 15 (by omega) r l b]
    exact forall_congr' fun k => forall_congr' fun _ => cmax_le _ r l b
  constructor
  · intro h n
    have hn := n.isLt
    have h1 := (key ⟨n.val % 128, by omega⟩).mp (h _ (Finset.mem_univ _)) (n.val / 512) (by omega) ⟨n.val / 128 % 4, by omega⟩
    rw [hc_tile m c t (n.val / 512) (by omega) r] at h1
    have en : (⟨n.val / 512 * 512 + (n.val / 128 % 4 * 128 + n.val % 128), by omega⟩ : Fin 8192) = n := Fin.ext (by show n.val / 512 * 512 + (n.val / 128 % 4 * 128 + n.val % 128) = n.val; omega)
    rw [en] at h1
    exact h1
  · intro h l _
    refine (key l).mpr fun k hk a => ?_
    rw [hc_tile m c t k (by omega) r]
    exact h _

/-! ## The tile's codes and scales -/

/-- A finished tile's row maxima, over 448. -/
theorem pay4_tile (c : Dev nD) (t : Fin cfg0.N) (ht : t.val % 16 = 15) (r : Fin 512) (l : Fin 128) :
    k0_pay4 (F := Ideal) (mxAt m c (t.val + 1)) (ix2 r l) = amax (Hat m c t r) * Ideal.ofBits .f32 0x3B124925#32 := by
  rw [pay4_cell]
  exact congrArg (· * _) (fold_mx m c t ht r)

/-- A finished tile's inverse scales. -/
theorem inv_tile (c : Dev nD) (t : Fin cfg0.N) (ht : t.val % 16 = 15) (r : Fin 512) (l : Fin 128) :
    invT (F := Ideal) (mxAt m c (t.val + 1)) (ix2 r l) = inv (amax (Hat m c t r)) := by
  rw [invT_cell, pay4_tile m c t ht]
  rfl

/-- A finished tile's scales, as a row. -/
theorem row_tile (c : Dev nD) (t : Fin cfg0.N) (ht : t.val % 16 = 15) (r : Fin 512) :
    rowT (F := Ideal) (mxAt m c (t.val + 1)) (ix2 0 r) = scale (amax (Hat m c t r)) := by
  rw [rowT_cell, pay4_tile m c t ht]
  rfl

/-- A finished tile's slice `k`, quantised: the codes of the hidden rows. -/
theorem q_tile (c : Dev nD) (t : Fin cfg0.N) (ht : t.val % 16 = 15) (k : ℕ) (hk : k < 16) (r q : Fin 512) :
    qT (F := Ideal) (invT (F := Ideal) (mxAt m c (t.val + 1))) (slAt m c t k) (ix2 r q) = code (amax (Hat m c t r)) (Hat m c t r ⟨k * 512 + q.val, by omega⟩) := by
  rw [qT_cell, inv_tile m c t ht]
  have := slAt_cell m c t k hk r q
  unfold code
  rw [← this]

/-- The second layer's tile. -/
theorem c_tile (c : Dev nD) (t : Fin cfg0.N) (ht : t.val % 16 = 15) (o : Fin 160) (r : Fin 512) :
    cAt (F := Ideal) m c t (ix2 o r) = Crow (xA m c) (w1A m c) (s1A m c) (b1A m c) (w2A m c) (s2A m c) (b2A m c) (gAt t) (rAt t r) o := by
  unfold cAt
  rw [cT_cell, accT_cell, row_tile m c t ht]
  unfold Crow out
  refine congrArg₂ (· + ·) (congrArg₂ (· * ·) (congrArg (· * _) ?_) (blk6 m c t o)) (blk7 m c t o)
  rw [Fin.sum_univ_tiles 16 512 rfl]
  refine Finset.sum_congr rfl fun j _ => Finset.sum_congr rfl fun k _ => ?_
  rw [q_tile m c t ht j.val j.isLt r k, mul_comm]
  refine congrArg₂ (· * ·) rfl ?_
  rw [wT_cell _ j.val j.isLt]
  exact blk5 m c t o _

/-- The second layer's column maxima, over 448. -/
theorem m_tile (c : Dev nD) (t : Fin cfg0.N) (ht : t.val % 16 = 15) (i : Fin 8) (r : Fin 512) :
    mT (F := Ideal) (cAt (F := Ideal) m c t) (ix2 i r) = amax (Crow (xA m c) (w1A m c) (s1A m c) (b1A m c) (w2A m c) (s2A m c) (b2A m c) (gAt t) (rAt t r)) * Ideal.ofBits .f32 0x3B124925#32 := by
  rw [mT_cell]
  refine congrArg (· * _) (congrArg amax ?_)
  funext o
  exact c_tile m c t ht o r

/-- The second layer's codes that the tile stores. -/
theorem ck_tile (c : Dev nD) (t : Fin cfg0.N) (ht : t.val % 16 = 15) (o : Fin 160) (r : Fin 512) :
    k0_pay2 (F := Ideal) (cAt (F := Ideal) m c t) (inv2T (F := Ideal) (mT (F := Ideal) (cAt (F := Ideal) m c t))) (ix4 0 0 o r)
      = code (amax (Crow (xA m c) (w1A m c) (s1A m c) (b1A m c) (w2A m c) (s2A m c) (b2A m c) (gAt t) (rAt t r))) (Crow (xA m c) (w1A m c) (s1A m c) (b1A m c) (w2A m c) (s2A m c) (b2A m c) (gAt t) (rAt t r) o) := by
  rw [pay2_cell, inv2T_cell, m_tile m c t ht, c_tile m c t ht]
  rfl

/-- The second layer's scales that the tile stores. -/
theorem cks_tile (c : Dev nD) (t : Fin cfg0.N) (ht : t.val % 16 = 15) (r : Fin 512) :
    k0_pay3 (F := Ideal) (sc2T (F := Ideal) (mT (F := Ideal) (cAt (F := Ideal) m c t))) (ix4 0 0 0 r)
      = scale (amax (Crow (xA m c) (w1A m c) (s1A m c) (b1A m c) (w2A m c) (s2A m c) (b2A m c) (gAt t) (rAt t r))) := by
  rw [pay3_cell, sc2T_cell, m_tile m c t ht]
  rfl

/-- The hidden scales that the tile stores. -/
theorem hs_tile (c : Dev nD) (t : Fin cfg0.N) (ht : t.val % 16 = 15) (r : Fin 512) :
    shapeCast S1x1x1x512 (rowT (F := Ideal) (mxAt m c (t.val + 1))) shapeCasts_S1x512_S1x1x1x512 (ix4 0 0 0 r) = scale (amax (Hat m c t r)) := by
  rw [← row_tile m c t ht r]
  generalize rowT (F := Ideal) (mxAt m c (t.val + 1)) = v
  pointwise

/-- The piece of hidden codes that the tile stores for chunk `k`. -/
theorem hc_tile_code (c : Dev nD) (t : Fin cfg0.N) (ht : t.val % 16 = 15) (k : ℕ) (hk : k < 16) (r q : Fin 512) :
    shapeCast S1x1x512x512 (qT (F := Ideal) (invT (F := Ideal) (mxAt m c (t.val + 1))) (slAt m c t k)) shapeCasts_S512x512_S1x1x512x512 (ix4 0 0 r q)
      = code (amax (Hat m c t r)) (Hat m c t r ⟨k * 512 + q.val, by omega⟩) := by
  rw [← q_tile m c t ht k hk r q]
  generalize qT (F := Ideal) (invT (F := Ideal) (mxAt m c (t.val + 1))) (slAt m c t k) = v
  pointwise

end Cert.KernelIdeal.Run

end
-- ==== Proof.Ideal.Value.lean ====
/- What the kernel's result arrays hold after the run, as functions of the arguments, and the run itself. -/
module

public import proofs.«01_k».proof.Proof.Ideal.Tile
public import Idealize.ShloMosaic.Lib.Pipeline.Value
public import Idealize.ShloMosaic.Lib.Pipeline.ValueKit

@[expose] public section

set_option maxRecDepth 16384

noncomputable section

namespace Cert.KernelIdeal.Run

open Idealize.ShloMosaic Idealize.ShloMosaic.TcCoe Idealize.ShloMosaic.Tactic Idealize.SL.Sem
open Cert.KernelIdeal Cert.KernelIdeal.Gen Cert.Mlp

variable (m : (ℓ : Loc nD τ sig) → Buf (Elt Ideal) ℓ) (ρ : Dev nD → PrngReg)

/-! ## The blocks a tile leaves -/

/-- The hidden codes' block. -/
theorem out8_cell (c : Dev nD) (t : Fin cfg0.N) (ht : t.val % 16 = 15) (r : Fin 512) (n : Fin 8192) :
    out0_8 (F := Ideal) m c t (ix4 0 0 r n) = code (amax (Hat m c t r)) (Hat m c t r n) := by
  rw [out0_8_last m c t ht]
  refine View.read_writes_apply_of_pieces VO0_8 _ (fun y : S1x1x512x8192.Idx => code (amax (Hat m c t (y 2))) (Hat m c t (y 2) (y 3))) _ ?_ (ix4 0 0 r n) (cover0_8 m c t ht _)
  rw [runB_8 m c t ht]
  have key : ∀ (k : ℕ) (hk : k < 16) (a b : Fin 512), shapeCast S1x1x512x512 (qT (F := Ideal) (invT (F := Ideal) (mxAt m c (t.val + 1))) (slAt m c t k)) shapeCasts_S512x512_S1x1x512x512 (ix4 0 0 a b)
      = (fun y : S1x1x512x8192.Idx => code (amax (Hat m c t (y 2))) (Hat m c t (y 2) (y 3))) ((pieceT (F := Ideal) (invT (F := Ideal) (mxAt m c (t.val + 1))) (slAt m c t) k).1.emb (ix4 0 0 a b)) := by
    intro k hk a b
    rw [hc_tile_code m c t ht k hk]
    unfold pieceT
    dsimp only
    refine congrArg₂ (fun (a : Fin 512) (b : Fin 8192) => code (amax (Hat m c t a)) (Hat m c t a b)) (Fin.ext ?_) (Fin.ext ?_)
    · blk_simp
    · show k * 512 + b.val = _
      blk_simp
      omega
  have hp : ∀ (k : ℕ) (hk : k < 16) (x : S1x1x512x512.Idx), shapeCast S1x1x512x512 (qT (F := Ideal) (invT (F := Ideal) (mxAt m c (t.val + 1))) (slAt m c t k)) shapeCasts_S512x512_S1x1x512x512 x
      = (fun y : S1x1x512x8192.Idx => code (amax (Hat m c t (y 2))) (Hat m c t (y 2) (y 3))) ((pieceT (F := Ideal) (invT (F := Ideal) (mxAt m c (t.val + 1))) (slAt m c t) k).1.emb x) := by
    intro k hk x
    have hx : x = ix4 0 0 (x 2) (x 3) := by blk_ext
    rw [hx]
    exact key k hk (x 2) (x 3)
  intro p hpm
  simp only [List.mem_cons, List.not_mem_nil, or_false] at hpm
  rcases hpm with rfl | rfl | rfl | rfl | rfl | rfl | rfl | rfl | rfl | rfl | rfl | rfl | rfl | rfl | rfl | rfl
  · exact hp 15 (by omega)
  · exact hp 14 (by omega)
  · exact hp 13 (by omega)
  · exact hp 12 (by omega)
  · exact hp 11 (by omega)
  · exact hp 10 (by omega)
  · exact hp 9 (by omega)
  · exact hp 8 (by omega)
  · exact hp 7 (by omega)
  · exact hp 6 (by omega)
  · exact hp 5 (by omega)
  · exact hp 4 (by omega)
  · exact hp 3 (by omega)
  · exact hp 2 (by omega)
  · exact hp 1 (by omega)
  · exact hp 0 (by omega)

/-- The scales' block. -/
theorem out9_cell (c : Dev nD) (t : Fin cfg0.N) (ht : t.val % 16 = 15) (r : Fin 512) :
    out0_9 (F := Ideal) m c t (ix4 0 0 0 r) = scale (amax (Hat m c t r)) := by
  rw [out0_9_last m c t ht]
  refine View.read_writes_apply_of_pieces VO0_9 _ (fun y : S1x1x1x512.Idx => scale (amax (Hat m c t (y 3)))) _ ?_ (ix4 0 0 0 r) (cover0_9 m c t ht _)
  rw [runB_9 m c t ht]
  intro p hpm
  simp only [List.mem_cons, List.not_mem_nil, or_false] at hpm
  subst hpm
  have key : ∀ (a : Fin 512), shapeCast S1x1x1x512 (rowT (F := Ideal) (mxAt m c (t.val + 1))) shapeCasts_S1x512_S1x1x1x512 (ix4 0 0 0 a) = (fun y : S1x1x1x512.Idx => scale (amax (Hat m c t (y 3)))) ((Rect.unit (s := S1x1x1x512) ![0, 0, 0, 0] S1x1x1x512.size inb_S1x1x1x512_S1x1x1x512_0_0_0_0).emb (ix4 0 0 0 a)) := by
    intro a
    refine (hs_tile m c t ht a).trans ?_
    refine congrArg (fun a : Fin 512 => scale (amax (Hat m c t a))) ?_ <;> (apply Fin.ext; blk_simp)
  intro x
  have hx : x = ix4 0 0 0 (x 3) := by blk_ext
  rw [hx]
  exact key (x 3)

/-- The second layer's codes' block. -/
theorem out10_cell (c : Dev nD) (t : Fin cfg0.N) (ht : t.val % 16 = 15) (o : Fin 160) (r : Fin 512) :
    out0_10 (F := Ideal) m c t (ix4 0 0 o r) = code (amax (Crow (xA m c) (w1A m c) (s1A m c) (b1A m c) (w2A m c) (s2A m c) (b2A m c) (gAt t) (rAt t r))) (Crow (xA m c) (w1A m c) (s1A m c) (b1A m c) (w2A m c) (s2A m c) (b2A m c) (gAt t) (rAt t r) o) := by
  rw [out0_10_last m c t ht]
  refine View.read_writes_apply_of_pieces VO0_10 _ (fun y : S1x1x160x512.Idx => code (amax (Crow (xA m c) (w1A m c) (s1A m c) (b1A m c) (w2A m c) (s2A m c) (b2A m c) (gAt t) (rAt t (y 3)))) (Crow (xA m c) (w1A m c) (s1A m c) (b1A m c) (w2A m c) (s2A m c) (b2A m c) (gAt t) (rAt t (y 3)) (y 2))) _ ?_ (ix4 0 0 o r) (cover0_10 m c t ht _)
  rw [runB_10 m c t ht]
  intro p hpm
  simp only [List.mem_cons, List.not_mem_nil, or_false] at hpm
  subst hpm
  have key : ∀ (o : Fin 160) (a : Fin 512), k0_pay2 (F := Ideal) (cAt (F := Ideal) m c t) (inv2T (F := Ideal) (mT (F := Ideal) (cAt (F := Ideal) m c t))) (ix4 0 0 o a) = (fun y : S1x1x160x512.Idx => code (amax (Crow (xA m c) (w1A m c) (s1A m c) (b1A m c) (w2A m c) (s2A m c) (b2A m c) (gAt t) (rAt t (y 3)))) (Crow (xA m c) (w1A m c) (s1A m c) (b1A m c) (w2A m c) (s2A m c) (b2A m c) (gAt t) (rAt t (y 3)) (y 2))) ((Rect.unit (s := S1x1x160x512) ![0, 0, 0, 0] S1x1x160x512.size inb_S1x1x160x512_S1x1x160x512_0_0_0_0).emb (ix4 0 0 o a)) := by
    intro o a
    refine (ck_tile m c t ht o a).trans ?_
    refine congrArg₂ (fun (a : Fin 512) (b : Fin 160) => code (amax (Crow (xA m c) (w1A m c) (s1A m c) (b1A m c) (w2A m c) (s2A m c) (b2A m c) (gAt t) (rAt t a))) (Crow (xA m c) (w1A m c) (s1A m c) (b1A m c) (w2A m c) (s2A m c) (b2A m c) (gAt t) (rAt t a) b)) ?_ ?_ <;> (apply Fin.ext; blk_simp)
  intro x
  have hx : x = ix4 0 0 (x 2) (x 3) := by blk_ext
  rw [hx]
  exact key (x 2) (x 3)

/-- The second layer's scales' block. -/
theorem out11_cell (c : Dev nD) (t : Fin cfg0.N) (ht : t.val % 16 = 15) (r : Fin 512) :
    out0_11 (F := Ideal) m c t (ix4 0 0 0 r) = scale (amax (Crow (xA m c) (w1A m c) (s1A m c) (b1A m c) (w2A m c) (s2A m c) (b2A m c) (gAt t) (rAt t r))) := by
  rw [out0_11_last m c t ht]
  refine View.read_writes_apply_of_pieces VO0_11 _ (fun y : S1x1x1x512.Idx => scale (amax (Crow (xA m c) (w1A m c) (s1A m c) (b1A m c) (w2A m c) (s2A m c) (b2A m c) (gAt t) (rAt t (y 3))))) _ ?_ (ix4 0 0 0 r) (cover0_11 m c t ht _)
  rw [runB_11 m c t ht]
  intro p hpm
  simp only [List.mem_cons, List.not_mem_nil, or_false] at hpm
  subst hpm
  have key : ∀ (a : Fin 512), k0_pay3 (F := Ideal) (sc2T (F := Ideal) (mT (F := Ideal) (cAt (F := Ideal) m c t))) (ix4 0 0 0 a) = (fun y : S1x1x1x512.Idx => scale (amax (Crow (xA m c) (w1A m c) (s1A m c) (b1A m c) (w2A m c) (s2A m c) (b2A m c) (gAt t) (rAt t (y 3))))) ((Rect.unit (s := S1x1x1x512) ![0, 0, 0, 0] S1x1x1x512.size inb_S1x1x1x512_S1x1x1x512_0_0_0_0).emb (ix4 0 0 0 a)) := by
    intro a
    refine (cks_tile m c t ht a).trans ?_
    refine congrArg (fun a : Fin 512 => scale (amax (Crow (xA m c) (w1A m c) (s1A m c) (b1A m c) (w2A m c) (s2A m c) (b2A m c) (gAt t) (rAt t a)))) ?_ <;> (apply Fin.ext; blk_simp)
  intro x
  have hx : x = ix4 0 0 0 (x 3) := by blk_ext
  rw [hx]
  exact key (x 3)

/-- The hidden code of a row, named by batch and head or by their joint number. -/
theorem HC_of (x : S6x4096x5120.Idx → EReal) (w1 : S32x160x8192.Idx → EReal) (s1 b1 : S8192.Idx → EReal) (A : Fin 3) (B : Fin 2) (r : Fin 4096) (n : Fin 8192) (g : Fin 6) (R : Fin 4096) (n' : Fin 8192)
    (hg : A.val * 2 + B.val = g.val) (hr : r.val = R.val) (hn : n.val = n'.val) : code (amax (Hrow x w1 s1 b1 g R)) (Hrow x w1 s1 b1 g R n') = HC x w1 s1 b1 A B r n := by
  obtain rfl : gOf A B = g := Fin.ext hg
  obtain rfl : r = R := Fin.ext hr
  obtain rfl : n = n' := Fin.ext hn
  rfl

/-- The hidden scale of a row, named by batch and head or by their joint number. -/
theorem HS_of (x : S6x4096x5120.Idx → EReal) (w1 : S32x160x8192.Idx → EReal) (s1 b1 : S8192.Idx → EReal) (A : Fin 3) (B : Fin 2) (r : Fin 4096) (g : Fin 6) (R : Fin 4096)
    (hg : A.val * 2 + B.val = g.val) (hr : r.val = R.val) : scale (amax (Hrow x w1 s1 b1 g R)) = HS x w1 s1 b1 A B r := by
  obtain rfl : gOf A B = g := Fin.ext hg
  obtain rfl : r = R := Fin.ext hr
  rfl

/-- The second layer's code of a row, named by batch and head or by their joint number. -/
theorem CK_of (x : S6x4096x5120.Idx → EReal) (w1 : S32x160x8192.Idx → EReal) (s1 b1 : S8192.Idx → EReal) (w2 : S8192x160.Idx → EReal) (s2 b2 : S160.Idx → EReal) (A : Fin 3) (B : Fin 2) (r : Fin 4096) (n : Fin 160) (g : Fin 6) (R : Fin 4096) (n' : Fin 160)
    (hg : A.val * 2 + B.val = g.val) (hr : r.val = R.val) (hn : n.val = n'.val) : code (amax (Crow x w1 s1 b1 w2 s2 b2 g R)) (Crow x w1 s1 b1 w2 s2 b2 g R n') = CK x w1 s1 b1 w2 s2 b2 A B r n := by
  obtain rfl : gOf A B = g := Fin.ext hg
  obtain rfl : r = R := Fin.ext hr
  obtain rfl : n = n' := Fin.ext hn
  rfl

/-- The second layer's scale of a row, named by batch and head or by their joint number. -/
theorem CKS_of (x : S6x4096x5120.Idx → EReal) (w1 : S32x160x8192.Idx → EReal) (s1 b1 : S8192.Idx → EReal) (w2 : S8192x160.Idx → EReal) (s2 b2 : S160.Idx → EReal) (A : Fin 3) (B : Fin 2) (r : Fin 4096) (g : Fin 6) (R : Fin 4096)
    (hg : A.val * 2 + B.val = g.val) (hr : r.val = R.val) : scale (amax (Crow x w1 s1 b1 w2 s2 b2 g R)) = CKS x w1 s1 b1 w2 s2 b2 A B r := by
  obtain rfl : gOf A B = g := Fin.ext hg
  obtain rfl : r = R := Fin.ext hr
  rfl

/-- Output 8's block on the last chunk, at any index: the hidden codes of the tile's rows. -/
theorem out8_at (c : Dev nD) (t : Fin cfg0.N) (ht : t.val % 16 = 15) (Y : S1x1x512x8192.Idx) :
    out0_8 (F := Ideal) m c t Y = code (amax (Hat m c t (Y 2))) (Hat m c t (Y 2) (Y 3)) := by
  have hY : Y = ix4 0 0 (Y 2) (Y 3) := by blk_ext
  exact (congrArg (out0_8 (F := Ideal) m c t) hY).trans (out8_cell m c t ht (Y 2) (Y 3))

/-- Output 9's block on the last chunk, at any index: the hidden scales of the tile's rows. -/
theorem out9_at (c : Dev nD) (t : Fin cfg0.N) (ht : t.val % 16 = 15) (Y : S1x1x1x512.Idx) :
    out0_9 (F := Ideal) m c t Y = scale (amax (Hat m c t (Y 3))) := by
  have hY : Y = ix4 0 0 0 (Y 3) := by blk_ext
  exact (congrArg (out0_9 (F := Ideal) m c t) hY).trans (out9_cell m c t ht (Y 3))

/-- Output 10's block on the last chunk, at any index: the second layer's codes of the tile's rows. -/
theorem out10_at (c : Dev nD) (t : Fin cfg0.N) (ht : t.val % 16 = 15) (Y : S1x1x160x512.Idx) :
    out0_10 (F := Ideal) m c t Y = code (amax (Crow (xA m c) (w1A m c) (s1A m c) (b1A m c) (w2A m c) (s2A m c) (b2A m c) (gAt t) (rAt t (Y 3)))) (Crow (xA m c) (w1A m c) (s1A m c) (b1A m c) (w2A m c) (s2A m c) (b2A m c) (gAt t) (rAt t (Y 3)) (Y 2)) := by
  have hY : Y = ix4 0 0 (Y 2) (Y 3) := by blk_ext
  exact (congrArg (out0_10 (F := Ideal) m c t) hY).trans (out10_cell m c t ht (Y 2) (Y 3))

/-- Output 11's block on the last chunk, at any index: the second layer's scales of the tile's rows. -/
theorem out11_at (c : Dev nD) (t : Fin cfg0.N) (ht : t.val % 16 = 15) (Y : S1x1x1x512.Idx) :
    out0_11 (F := Ideal) m c t Y = scale (amax (Crow (xA m c) (w1A m c) (s1A m c) (b1A m c) (w2A m c) (s2A m c) (b2A m c) (gAt t) (rAt t (Y 3)))) := by
  have hY : Y = ix4 0 0 0 (Y 3) := by blk_ext
  exact (congrArg (out0_11 (F := Ideal) m c t) hY).trans (out11_cell m c t ht (Y 3))

/-! ## The arrays after the run -/

/-- The hidden codes. -/
theorem final8 (c : Dev nD) : (dats (F := Ideal) m 0 c).arrAt 8 cfg0.N = (fun i : S3x2x4096x8192.Idx => HC (xA m c) (w1A m c) (s1A m c) (b1A m c) (i 0) (i 1) (i 2) (i 3)) := by
  refine (dats (F := Ideal) m 0 c).arrAt_eq_of_covers 8 _ (by decide +kernel) (fun t hf y => ?_)
  have ht := (flush0_8 t).mp hf
  blk_simp
  rw [after0_8, out8_at m c t ht]
  have ix := idx8 t
  have hl := lt768 t
  refine HC_of (xA m c) (w1A m c) (s1A m c) (b1A m c) _ _ _ _ _ _ _ ?_ ?_ ?_
  · show ((win0_8.blk t).view.emb y 0).val * 2 + ((win0_8.blk t).view.emb y 1).val = t.val / 128
    have h0 : (y 0).val < 1 := ((cfg0.win 8).xinj (cfg0.grid.coords t) y 0).isLt
    have h1 : (y 1).val < 1 := ((cfg0.win 8).xinj (cfg0.grid.coords t) y 1).isLt
    blk_simp [idx8 t]
    omega
  · show ((win0_8.blk t).view.emb y 2).val = t.val / 16 % 8 * 512 + (y 2).val
    blk_simp [idx8 t]
  · show ((win0_8.blk t).view.emb y 3).val = (y 3).val
    blk_simp [idx8 t]

/-- The hidden scales. -/
theorem final9 (c : Dev nD) : (dats (F := Ideal) m 0 c).arrAt 9 cfg0.N = (fun i : S3x2x1x4095.Idx => HS (xA m c) (w1A m c) (s1A m c) (b1A m c) (i 0) (i 1) (rOf (i 3))) := by
  refine (dats (F := Ideal) m 0 c).arrAt_eq_of_covers 9 _ (by decide +kernel) (fun t hf y => ?_)
  have ht := (flush0_9 t).mp hf
  blk_simp
  rw [after0_9, out9_at m c t ht]
  have ix := idx9 t
  have hl := lt768 t
  refine HS_of (xA m c) (w1A m c) (s1A m c) (b1A m c) _ _ _ _ _ ?_ ?_
  · show ((win0_9.blk t).view.emb y 0).val * 2 + ((win0_9.blk t).view.emb y 1).val = t.val / 128
    have h0 : (y 0).val < 1 := ((cfg0.win 9).xinj (cfg0.grid.coords t) y 0).isLt
    have h1 : (y 1).val < 1 := ((cfg0.win 9).xinj (cfg0.grid.coords t) y 1).isLt
    blk_simp [idx9 t]
    omega
  · show ((win0_9.blk t).view.emb y 3).val = t.val / 16 % 8 * 512 + (y 3).val
    blk_simp [idx9 t]

/-- The second layer's codes. -/
theorem final10 (c : Dev nD) : (dats (F := Ideal) m 0 c).arrAt 10 cfg0.N = (fun i : S3x2x160x4095.Idx => CK (xA m c) (w1A m c) (s1A m c) (b1A m c) (w2A m c) (s2A m c) (b2A m c) (i 0) (i 1) (rOf (i 3)) (i 2)) := by
  refine (dats (F := Ideal) m 0 c).arrAt_eq_of_covers 10 _ (by decide +kernel) (fun t hf y => ?_)
  have ht := (flush0_10 t).mp hf
  blk_simp
  rw [after0_10, out10_at m c t ht]
  have ix := idx10 t
  have hl := lt768 t
  refine CK_of (xA m c) (w1A m c) (s1A m c) (b1A m c) (w2A m c) (s2A m c) (b2A m c) _ _ _ _ _ _ _ ?_ ?_ ?_
  · show ((win0_10.blk t).view.emb y 0).val * 2 + ((win0_10.blk t).view.emb y 1).val = t.val / 128
    have h0 : (y 0).val < 1 := ((cfg0.win 10).xinj (cfg0.grid.coords t) y 0).isLt
    have h1 : (y 1).val < 1 := ((cfg0.win 10).xinj (cfg0.grid.coords t) y 1).isLt
    blk_simp [idx10 t]
    omega
  · show ((win0_10.blk t).view.emb y 3).val = t.val / 16 % 8 * 512 + (y 3).val
    blk_simp [idx10 t]
  · show ((win0_10.blk t).view.emb y 2).val = (y 2).val
    exact (cfg0.win 10).rect_emb_val_of_index_zero t 2 (by rw [show (cfg0.win 10).index t = _ from idx10 t]; rfl) y

/-- The second layer's scales. -/
theorem final11 (c : Dev nD) : (dats (F := Ideal) m 0 c).arrAt 11 cfg0.N = (fun i : S3x2x1x4095.Idx => CKS (xA m c) (w1A m c) (s1A m c) (b1A m c) (w2A m c) (s2A m c) (b2A m c) (i 0) (i 1) (rOf (i 3))) := by
  refine (dats (F := Ideal) m 0 c).arrAt_eq_of_covers 11 _ (by decide +kernel) (fun t hf y => ?_)
  have ht := (flush0_11 t).mp hf
  blk_simp
  rw [after0_11, out11_at m c t ht]
  have ix := idx11 t
  have hl := lt768 t
  refine CKS_of (xA m c) (w1A m c) (s1A m c) (b1A m c) (w2A m c) (s2A m c) (b2A m c) _ _ _ _ _ ?_ ?_
  · show ((win0_11.blk t).view.emb y 0).val * 2 + ((win0_11.blk t).view.emb y 1).val = t.val / 128
    have h0 : (y 0).val < 1 := ((cfg0.win 11).xinj (cfg0.grid.coords t) y 0).isLt
    have h1 : (y 1).val < 1 := ((cfg0.win 11).xinj (cfg0.grid.coords t) y 1).isLt
    blk_simp [idx11 t]
    omega
  · show ((win0_11.blk t).view.emb y 3).val = t.val / 16 % 8 * 512 + (y 3).val
    blk_simp [idx11 t]

end Cert.KernelIdeal.Run

end
-- ==== Proof.Ideal.Result.lean ====
/- The kernel's run, with its results as functions of the arguments. -/
module

public import proofs.«01_k».proof.Proof.Ideal.Value
public import Idealize.ShloMosaic.Lib.Claim

@[expose] public section

set_option maxRecDepth 16384

noncomputable section

namespace Cert.KernelIdeal.Run

open Idealize.ShloMosaic Idealize.ShloMosaic.TcCoe Idealize.ShloMosaic.Tactic Idealize.SL.Sem
open Cert.KernelIdeal Cert.KernelIdeal.Gen Cert.Mlp

variable (m : (ℓ : Loc nD τ sig) → Buf (Elt Ideal) ℓ) (ρ : Dev nD → PrngReg)

/-- The run: the results hold the specification of the arguments, the arguments end unchanged. -/
theorem run : θ_run defs (onTc (τ := τ) (main (F := Ideal))) ⟨m, fun _ => 0, ρ⟩ fun r => ∀ c : Dev nD,
      r.2.mem ((c.tc : Thread nD τ).loc main_v5_0) = (fun i : S3x2x4096x8192.Idx => HC (xA m c) (w1A m c) (s1A m c) (b1A m c) (i 0) (i 1) (i 2) (i 3)) ∧
      r.2.mem ((c.tc : Thread nD τ).loc main_v5_1) = (fun i : S3x2x1x4095.Idx => HS (xA m c) (w1A m c) (s1A m c) (b1A m c) (i 0) (i 1) (rOf (i 3))) ∧
      r.2.mem ((c.tc : Thread nD τ).loc main_v5_2) = (fun i : S3x2x160x4095.Idx => CK (xA m c) (w1A m c) (s1A m c) (b1A m c) (w2A m c) (s2A m c) (b2A m c) (i 0) (i 1) (rOf (i 3)) (i 2)) ∧
      r.2.mem ((c.tc : Thread nD τ).loc main_v5_3) = (fun i : S3x2x1x4095.Idx => CKS (xA m c) (w1A m c) (s1A m c) (b1A m c) (w2A m c) (s2A m c) (b2A m c) (i 0) (i 1) (rOf (i 3))) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) :=
  (θ_run defs _ _).mono (fun r h c => ⟨((h c).1 8).trans (final8 m c), ((h c).1 9).trans (final9 m c), ((h c).1 10).trans (final10 m c), ((h c).1 11).trans (final11 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Run

end
-- ==== Proof.RefCells.lean ====
/- The reference's payloads, cell by cell. -/
module

public import proofs.«01_k».proof.Proof.Spec
public import proofs.«01_k».proof.Proof.Gen.ReferenceIdeal.Value
public import Idealize.ShloMosaic.Lib.Pipeline.ValueKit

@[expose] public section

set_option maxRecDepth 16384

noncomputable section

namespace Cert.ReferenceIdeal.Run

open Idealize.ShloMosaic Idealize.ShloMosaic.TcCoe Idealize.ShloMosaic.Tactic Idealize.SL.Sem
open Cert.ReferenceIdeal Cert.ReferenceIdeal.Gen Cert.Mlp

/-! ## The payloads at a cell -/

/-- The hidden matrix. -/
theorem pay6_cell (x : FVec Ideal S6x4096x5120 .bf16) (w : FVec Ideal S32x160x8192 .fp8e4m3) (s b : FVec Ideal S1x8192 .f32) (i : Fin 24576) (n : Fin 8192) :
    k0_pay6 (F := Ideal) x w s b (ix2 i n)
      = Mlp.hidden (fun k => x (ix3 ⟨i.val / 4096, by omega⟩ ⟨i.val % 4096, by omega⟩ k)) (fun p d => w (ix3 p d n)) (s (ix2 0 n)) (b (ix2 0 n)) := by
  unfold Mlp.hidden gelu pre win
  pointwise [k0_pay6]

/-- A row's maximum over 448. -/
theorem scaled_cell (M : FVec Ideal S24576 .f32) (i : Fin 24576) :
    mulf (F := Ideal) (shapeCast S24576x1 M shapeCasts_S24576_S24576x1) (broadcast S24576x1 (Scalar.ofBits .f32 0x3B124925#32)) (ix2 i 0) = M (ix1 i) * Ideal.ofBits .f32 0x3B124925#32 := by
  pointwise

/-- The scaled maximum of a row of the hidden matrix. -/
theorem pay7_cell (x : FVec Ideal S6x4096x5120 .bf16) (w : FVec Ideal S32x160x8192 .fp8e4m3) (s b : FVec Ideal S1x8192 .f32) (i : Fin 24576) :
    k0_pay7 (F := Ideal) x w s b (ix2 i 0) = amax (fun n : Fin 8192 => k0_pay6 (F := Ideal) x w s b (ix2 i n)) * Ideal.ofBits .f32 0x3B124925#32 := by
  unfold k0_pay7
  refine (scaled_cell _ i).trans ?_
  exact congrArg (· * Ideal.ofBits .f32 0x3B124925#32) (Mlp.rowMax reduces_S24576x8192_S24576 _ 0xFF800000#32 (.inl rfl) rfl i)

/-- An exponent over a row's scaled maximum, for any reading of the floats. -/
theorem exp_at {F : FTy → Type} [FloatOps F] (v : FVec F S24576x1 .f32) (j : S24576x1.Idx) :
    k0_pay9 v (minimumf (addf (floor (divf (log v) (log (broadcast S24576x1 (Scalar.ofBits .f32 0x40000000#32))))) (broadcast S24576x1 (Scalar.ofBits .f32 0x3F800000#32))) (broadcast S24576x1 (Scalar.ofBits .f32 0x42FC0000#32))) j
      = Scalar.select (FloatOps.cmpf .olt (v j) (FloatOps.ofBits .f32 0x00800000#32)) (FloatOps.ofBits .f32 0x00000000#32)
        (FloatOps.minimumf (FloatOps.addf (FloatOps.floor (FloatOps.divf (FloatOps.log (v j)) (FloatOps.log (FloatOps.ofBits .f32 0x40000000#32)))) (FloatOps.ofBits .f32 0x3F800000#32)) (FloatOps.ofBits .f32 0x42FC0000#32)) := rfl

/-- The exponent of a row of the hidden matrix. -/
theorem pay9_cell (x : FVec Ideal S6x4096x5120 .bf16) (w : FVec Ideal S32x160x8192 .fp8e4m3) (s b : FVec Ideal S1x8192 .f32) (j : S24576x1.Idx) :
    k0_pay9 (F := Ideal) (k0_pay7 x w s b) (k0_pay8 x w s b) j = Pow2.expR (k0_pay7 (F := Ideal) x w s b j) := by
  unfold k0_pay8 Pow2.expR
  exact exp_at (F := Ideal) _ j

/-- The hidden codes. -/
theorem pay10_cell (v : FVec Ideal S24576x8192 .f32) (a b : FVec Ideal S24576x1 .f32) (i : Fin 24576) (n : Fin 8192) :
    k0_pay10 (F := Ideal) v a b (ix2 i n)
      = min (Ideal.ofBits .f32 0x43E00000#32) (max (Ideal.ofBits .f32 0xC3E00000#32) (v (ix2 i n) * FloatOps.exp2 (F := Ideal) (φ := .f32) (FloatOps.subf (F := Ideal) (φ := .f32) (FloatOps.ofBits .f32 0x00000000#32) (k0_pay9 (F := Ideal) a b (ix2 i 0))))) := by
  unfold k0_pay10
  generalize k0_pay9 (F := Ideal) a b = e
  pointwise

/-- The hidden scales: two to the exponent. -/
theorem pay11_cell (a b : FVec Ideal S24576x1 .f32) (j : S24576x1.Idx) : k0_pay11 (F := Ideal) a b j = FloatOps.exp2 (F := Ideal) (φ := .f32) (k0_pay9 (F := Ideal) a b j) := rfl

/-- The second layer. -/
theorem pay12_cell (v : FVec Ideal S24576x8192 .f32) (a b : FVec Ideal S24576x1 .f32) (w : FVec Ideal S8192x160 .fp8e4m3) (s t : FVec Ideal S1x160 .f32) (i : Fin 24576) (o : Fin 160) :
    k0_pay12 (F := Ideal) v a b w s t (ix2 i o)
      = (∑ k : Fin 8192, k0_pay10 (F := Ideal) v a b (ix2 i k) * w (ix2 k o)) * k0_pay11 (F := Ideal) a b (ix2 i 0) * s (ix2 0 o) + t (ix2 0 o) := by
  unfold k0_pay12
  generalize k0_pay10 (F := Ideal) v a b = q
  generalize k0_pay11 (F := Ideal) a b = e
  pointwise

/-- The scaled maximum of a row of the second layer. -/
theorem pay13_cell (v : FVec Ideal S24576x8192 .f32) (a b : FVec Ideal S24576x1 .f32) (w : FVec Ideal S8192x160 .fp8e4m3) (s t : FVec Ideal S1x160 .f32) (i : Fin 24576) :
    k0_pay13 (F := Ideal) v a b w s t (ix2 i 0) = amax (fun o : Fin 160 => k0_pay12 (F := Ideal) v a b w s t (ix2 i o)) * Ideal.ofBits .f32 0x3B124925#32 := by
  unfold k0_pay13
  refine (scaled_cell _ i).trans ?_
  exact congrArg (· * Ideal.ofBits .f32 0x3B124925#32) (Mlp.rowMax reduces_S24576x160_S24576 _ 0xFF800000#32 (.inl rfl) rfl i)

/-- The exponent of a row of the second layer. -/
theorem pay1_cell (v : FVec Ideal S24576x8192 .f32) (a b : FVec Ideal S24576x1 .f32) (w : FVec Ideal S8192x160 .fp8e4m3) (s t : FVec Ideal S1x160 .f32) (j : S24576x1.Idx) :
    k0_pay1 (F := Ideal) (k0_pay13 v a b w s t) (k0_pay14 v a b w s t) k0_pay15 j = Pow2.expR (k0_pay13 (F := Ideal) v a b w s t j) := by
  unfold k0_pay14 Pow2.expR
  exact exp_at (F := Ideal) _ j

/-- Row of the flattened rows. -/
def iOf (a : Fin 3) (b : Fin 2) (r : Fin 4096) : Fin 24576 := ⟨a.val * 8192 + b.val * 4096 + r.val, by omega⟩

/-- The hidden codes, as stored: row by batch, head and window. -/
theorem pay2_cell (v : FVec Ideal S24576x8192 .fp8e4m3) (a : Fin 3) (b : Fin 2) (r : Fin 4096) (n : Fin 8192) :
    k0_pay2 (F := Ideal) v (ix4 a b r n) = v (ix2 (iOf a b r) n) := by
  unfold iOf
  pointwise [k0_pay2]

/-- The hidden scales, as stored: transposed, without the last window. -/
theorem pay3_cell (v : FVec Ideal S24576x1 .f32) (a : Fin 3) (b : Fin 2) (r : Fin 4095) :
    k0_pay3 (F := Ideal) v (ix4 a b 0 r) = v (ix2 (iOf a b (rOf r)) 0) := by
  unfold iOf rOf
  pointwise [k0_pay3]

/-- The second layer's codes. -/
theorem pay4_cell (v : FVec Ideal S24576x160 .f32) (x y z : FVec Ideal S24576x1 .f32) (a : Fin 3) (b : Fin 2) (o : Fin 160) (r : Fin 4095) :
    k0_pay4 (F := Ideal) v x y z (ix4 a b o r)
      = min (Ideal.ofBits .f32 0x43E00000#32) (max (Ideal.ofBits .f32 0xC3E00000#32) (v (ix2 (iOf a b (rOf r)) o) * FloatOps.exp2 (F := Ideal) (φ := .f32) (FloatOps.subf (F := Ideal) (φ := .f32) (FloatOps.ofBits .f32 0x00000000#32) (k0_pay1 (F := Ideal) x y z (ix2 (iOf a b (rOf r)) 0))))) := by
  unfold k0_pay4 iOf rOf
  generalize k0_pay1 (F := Ideal) x y z = e
  pointwise

/-- The second layer's scales, as stored: two to the exponent, transposed, without the last window. -/
theorem pay5_cell (x y z : FVec Ideal S24576x1 .f32) (a : Fin 3) (b : Fin 2) (r : Fin 4095) :
    k0_pay5 (F := Ideal) x y z (ix4 a b 0 r) = FloatOps.exp2 (F := Ideal) (φ := .f32) (k0_pay1 (F := Ideal) x y z (ix2 (iOf a b (rOf r)) 0)) := by
  unfold k0_pay5 iOf rOf
  generalize k0_pay1 (F := Ideal) x y z = e
  pointwise

end Cert.ReferenceIdeal.Run

end
-- ==== Proof.RefRows.lean ====
/- The rows the reference computes. -/
module

public import proofs.«01_k».proof.Proof.RefCells
public import Idealize.ShloMosaic.Lib.Pipeline.ValueKit

@[expose] public section

set_option maxRecDepth 16384

noncomputable section

namespace Cert.ReferenceIdeal.Run

open Idealize.ShloMosaic Idealize.ShloMosaic.TcCoe Idealize.ShloMosaic.Tactic Idealize.SL.Sem
open Cert.ReferenceIdeal Cert.ReferenceIdeal.Gen Cert.Mlp

/-! ## The rows -/

/-- The hidden row of flattened row `i`. -/
def hR (x : FVec Ideal S6x4096x5120 .bf16) (w : FVec Ideal S32x160x8192 .fp8e4m3) (s b : FVec Ideal S1x8192 .f32) (i : Fin 24576) (n : Fin 8192) : EReal := k0_pay6 (F := Ideal) x w s b (ix2 i n)

/-- The hidden codes are the specification's codes of the hidden row. -/
theorem hcode (x : FVec Ideal S6x4096x5120 .bf16) (w : FVec Ideal S32x160x8192 .fp8e4m3) (s b : FVec Ideal S1x8192 .f32) (i : Fin 24576) (n : Fin 8192) :
    k0_pay10 (F := Ideal) (k0_pay6 x w s b) (k0_pay7 x w s b) (k0_pay8 x w s b) (ix2 i n) = code (amax (hR x w s b i)) (hR x w s b i n) := by
  rw [pay10_cell, pay9_cell, pay7_cell]
  rfl

/-- The hidden scales are the specification's scales of the hidden row. -/
theorem hscale (x : FVec Ideal S6x4096x5120 .bf16) (w : FVec Ideal S32x160x8192 .fp8e4m3) (s b : FVec Ideal S1x8192 .f32) (i : Fin 24576) :
    k0_pay11 (F := Ideal) (k0_pay7 x w s b) (k0_pay8 x w s b) (ix2 i 0) = scale (amax (hR x w s b i)) := by
  rw [pay11_cell, pay9_cell, pay7_cell]
  rfl

/-- The second layer's row of flattened row `i`. -/
def cR (x : FVec Ideal S6x4096x5120 .bf16) (w : FVec Ideal S32x160x8192 .fp8e4m3) (s b : FVec Ideal S1x8192 .f32) (w2 : FVec Ideal S8192x160 .fp8e4m3) (s2 b2 : FVec Ideal S1x160 .f32) (i : Fin 24576) (o : Fin 160) : EReal :=
  out (hR x w s b i) (fun k => w2 (ix2 k o)) (s2 (ix2 0 o)) (b2 (ix2 0 o))

/-- The second layer's values are the row `cR`. -/
theorem crow (x : FVec Ideal S6x4096x5120 .bf16) (w : FVec Ideal S32x160x8192 .fp8e4m3) (s b : FVec Ideal S1x8192 .f32) (w2 : FVec Ideal S8192x160 .fp8e4m3) (s2 b2 : FVec Ideal S1x160 .f32) (i : Fin 24576) (o : Fin 160) :
    k0_pay12 (F := Ideal) (k0_pay6 x w s b) (k0_pay7 x w s b) (k0_pay8 x w s b) w2 s2 b2 (ix2 i o) = cR x w s b w2 s2 b2 i o := by
  rw [pay12_cell, hscale]
  simp only [hcode]
  rfl

/-- The largest magnitude of the second layer's row, over 448. -/
theorem cmaxR (x : FVec Ideal S6x4096x5120 .bf16) (w : FVec Ideal S32x160x8192 .fp8e4m3) (s b : FVec Ideal S1x8192 .f32) (w2 : FVec Ideal S8192x160 .fp8e4m3) (s2 b2 : FVec Ideal S1x160 .f32) (i : Fin 24576) :
    k0_pay13 (F := Ideal) (k0_pay6 x w s b) (k0_pay7 x w s b) (k0_pay8 x w s b) w2 s2 b2 (ix2 i 0) = amax (cR x w s b w2 s2 b2 i) * Ideal.ofBits .f32 0x3B124925#32 := by
  rw [pay13_cell]
  simp only [crow]

end Cert.ReferenceIdeal.Run

end
-- ==== Proof.RefBlocks.lean ====
/- What the reference reads: its arguments. -/
module

public import proofs.«01_k».proof.Proof.Spec
public import proofs.«01_k».proof.Proof.Gen.ReferenceIdeal.Value
public import Idealize.ShloMosaic.Lib.Pipeline.ValueKit

@[expose] public section

set_option maxRecDepth 16384

noncomputable section

namespace Cert.ReferenceIdeal.Run

open Idealize.ShloMosaic Idealize.ShloMosaic.TcCoe Idealize.ShloMosaic.Tactic Idealize.SL.Sem
open Cert.ReferenceIdeal Cert.ReferenceIdeal.Gen Cert.Mlp

variable (m : (ℓ : Loc nD τ sig) → Buf (Elt Ideal) ℓ) (ρ : Dev nD → PrngReg)

/-! ## The blocks -/

abbrev xA (c : Dev nD) : S6x4096x5120.Idx → EReal := m ((c : Thread nD τ).loc main_arg0)
abbrev w1A (c : Dev nD) : S32x160x8192.Idx → EReal := m ((c : Thread nD τ).loc main_arg1)
abbrev s1A (c : Dev nD) : S8192.Idx → EReal := m ((c : Thread nD τ).loc main_arg2)
abbrev b1A (c : Dev nD) : S8192.Idx → EReal := m ((c : Thread nD τ).loc main_arg3)
abbrev w2A (c : Dev nD) : S8192x160.Idx → EReal := m ((c : Thread nD τ).loc main_arg4)
abbrev s2A (c : Dev nD) : S160.Idx → EReal := m ((c : Thread nD τ).loc main_arg5)
abbrev b2A (c : Dev nD) : S160.Idx → EReal := m ((c : Thread nD τ).loc main_arg6)

/-- The first layer's scales, as a row. -/
theorem V_v0 (c : Dev nD) (n : Fin 8192) : (show S1x8192.Idx → EReal from V m c main_v0) (ix2 0 n) = s1A m c (ix1 n) := by
  entry_read
  pointwise

/-- The first layer's biases, as a row. -/
theorem V_v1 (c : Dev nD) (n : Fin 8192) : (show S1x8192.Idx → EReal from V m c main_v1) (ix2 0 n) = b1A m c (ix1 n) := by
  entry_read
  pointwise

/-- The second layer's scales, as a row. -/
theorem V_v2 (c : Dev nD) (n : Fin 160) : (show S1x160.Idx → EReal from V m c main_v2) (ix2 0 n) = s2A m c (ix1 n) := by
  entry_read
  pointwise

/-- The second layer's biases, as a row. -/
theorem V_v3 (c : Dev nD) (n : Fin 160) : (show S1x160.Idx → EReal from V m c main_v3) (ix2 0 n) = b2A m c (ix1 n) := by
  entry_read
  pointwise

/-- The one point's block indices. -/
theorem idx0 : ∀ t : Fin cfg0.N, win0_0.index t = ![0, 0, 0] := (by decide +kernel : ∀ t : Fin grid0.N, _)
/-- Window 1 has one block. -/
theorem idx1 : ∀ t : Fin cfg0.N, win0_1.index t = ![0, 0, 0] := (by decide +kernel : ∀ t : Fin grid0.N, _)
/-- Window 2 has one block. -/
theorem idx2 : ∀ t : Fin cfg0.N, win0_2.index t = ![0, 0] := (by decide +kernel : ∀ t : Fin grid0.N, _)
/-- Window 3 has one block. -/
theorem idx3 : ∀ t : Fin cfg0.N, win0_3.index t = ![0, 0] := (by decide +kernel : ∀ t : Fin grid0.N, _)
/-- Window 4 has one block. -/
theorem idx4 : ∀ t : Fin cfg0.N, win0_4.index t = ![0, 0] := (by decide +kernel : ∀ t : Fin grid0.N, _)
/-- Window 5 has one block. -/
theorem idx5 : ∀ t : Fin cfg0.N, win0_5.index t = ![0, 0] := (by decide +kernel : ∀ t : Fin grid0.N, _)
/-- Window 6 has one block. -/
theorem idx6 : ∀ t : Fin cfg0.N, win0_6.index t = ![0, 0] := (by decide +kernel : ∀ t : Fin grid0.N, _)

/-- The one point's blocks are the arrays. -/
theorem blk0 (c : Dev nD) (g : Fin 6) (r : Fin 4096) (k : Fin 5120) : (show S6x4096x5120.Idx → EReal from iblk m c 0 t0_0) (ix3 g r k) = xA m c (ix3 g r k) := by
  show iblk m c 0 t0_0 (ix3 g r k) = _
  blk_point [iblk, V_main_arg0, idx0 t0_0]
/-- Input 1's block is the whole array: the first weight. -/
theorem blk1 (c : Dev nD) (p : Fin 32) (d : Fin 160) (n : Fin 8192) : (show S32x160x8192.Idx → EReal from iblk m c 1 t0_0) (ix3 p d n) = w1A m c (ix3 p d n) := by
  show iblk m c 1 t0_0 (ix3 p d n) = _
  blk_point [iblk, V_main_arg1, idx1 t0_0]
/-- Input 4's block is the whole array: the second weight. -/
theorem blk4 (c : Dev nD) (k : Fin 8192) (o : Fin 160) : (show S8192x160.Idx → EReal from iblk m c 4 t0_0) (ix2 k o) = w2A m c (ix2 k o) := by
  show iblk m c 4 t0_0 (ix2 k o) = _
  blk_point [iblk, V_main_arg4, idx4 t0_0]
/-- Input 2's block is the whole array: the first layer's scales. -/
theorem blk2 (c : Dev nD) (n : Fin 8192) : (show S1x8192.Idx → EReal from iblk m c 2 t0_0) (ix2 0 n) = s1A m c (ix1 n) := by
  rw [← V_v0]
  show iblk m c 2 t0_0 (ix2 0 n) = V m c main_v0 (ix2 0 n)
  blk_point [iblk, idx2 t0_0]
/-- Input 3's block is the whole array: the first layer's biases. -/
theorem blk3 (c : Dev nD) (n : Fin 8192) : (show S1x8192.Idx → EReal from iblk m c 3 t0_0) (ix2 0 n) = b1A m c (ix1 n) := by
  rw [← V_v1]
  show iblk m c 3 t0_0 (ix2 0 n) = V m c main_v1 (ix2 0 n)
  blk_point [iblk, idx3 t0_0]
/-- Input 5's block is the whole array: the second layer's scales. -/
theorem blk5 (c : Dev nD) (n : Fin 160) : (show S1x160.Idx → EReal from iblk m c 5 t0_0) (ix2 0 n) = s2A m c (ix1 n) := by
  rw [← V_v2]
  show iblk m c 5 t0_0 (ix2 0 n) = V m c main_v2 (ix2 0 n)
  blk_point [iblk, idx5 t0_0]
/-- Input 6's block is the whole array: the second layer's biases. -/
theorem blk6 (c : Dev nD) (n : Fin 160) : (show S1x160.Idx → EReal from iblk m c 6 t0_0) (ix2 0 n) = b2A m c (ix1 n) := by
  rw [← V_v3]
  show iblk m c 6 t0_0 (ix2 0 n) = V m c main_v3 (ix2 0 n)
  blk_point [iblk, idx6 t0_0]

end Cert.ReferenceIdeal.Run

end
-- ==== Proof.RefArgs.lean ====
/- The reference's rows over its arguments. -/
module

public import proofs.«01_k».proof.Proof.RefRows
public import proofs.«01_k».proof.Proof.RefBlocks
public import Idealize.ShloMosaic.Lib.Pipeline.ValueKit

@[expose] public section

set_option maxRecDepth 16384

noncomputable section

namespace Cert.ReferenceIdeal.Run

open Idealize.ShloMosaic Idealize.ShloMosaic.TcCoe Idealize.ShloMosaic.Tactic Idealize.SL.Sem
open Cert.ReferenceIdeal Cert.ReferenceIdeal.Gen Cert.Mlp

variable (m : (ℓ : Loc nD τ sig) → Buf (Elt Ideal) ℓ) (ρ : Dev nD → PrngReg)

/-- The hidden row over the arguments. -/
theorem hR_eq (c : Dev nD) (a : Fin 3) (b : Fin 2) (r : Fin 4096) :
    hR (iblk m c 0 t0_0) (iblk m c 1 t0_0) (iblk m c 2 t0_0) (iblk m c 3 t0_0) (iOf a b r) = Hrow (xA m c) (w1A m c) (s1A m c) (b1A m c) (gOf a b) r := by
  funext n
  unfold hR Hrow
  rw [pay6_cell]
  have eg : ∀ h, (⟨(iOf a b r).val / 4096, h⟩ : Fin 6) = gOf a b := fun h => Fin.ext (by show (a.val * 8192 + b.val * 4096 + r.val) / 4096 = a.val * 2 + b.val; omega)
  have er : ∀ h, (⟨(iOf a b r).val % 4096, h⟩ : Fin 4096) = r := fun h => Fin.ext (by show (a.val * 8192 + b.val * 4096 + r.val) % 4096 = r.val; omega)
  rw [eg, er]
  have e0 := blk0 m c (gOf a b) r
  have e1 := fun p d => blk1 m c p d n
  have e2 := blk2 m c n
  have e3 := blk3 m c n
  refine congr (congr (congrArg₂ Mlp.hidden (funext e0) (funext fun p => funext fun d => e1 p d)) e2) e3

/-- The second layer's row over the arguments. -/
theorem cR_eq (c : Dev nD) (a : Fin 3) (b : Fin 2) (r : Fin 4096) :
    cR (iblk m c 0 t0_0) (iblk m c 1 t0_0) (iblk m c 2 t0_0) (iblk m c 3 t0_0) (iblk m c 4 t0_0) (iblk m c 5 t0_0) (iblk m c 6 t0_0) (iOf a b r) = Crow (xA m c) (w1A m c) (s1A m c) (b1A m c) (w2A m c) (s2A m c) (b2A m c) (gOf a b) r := by
  funext o
  unfold cR Crow
  rw [hR_eq]
  have e1 := fun k => blk4 m c k o
  have e2 := blk5 m c o
  have e3 := blk6 m c o
  refine congr (congr (congrArg₂ Mlp.out rfl (funext e1)) e2) e3

end Cert.ReferenceIdeal.Run

end
-- ==== Proof.RefValue.lean ====
/- What the reference's result arrays hold after the run, as functions of the arguments. -/
module

public import proofs.«01_k».proof.Proof.RefArgs
public import Idealize.ShloMosaic.Lib.Pipeline.ValueKit

@[expose] public section

set_option maxRecDepth 16384

noncomputable section

namespace Cert.ReferenceIdeal.Run

open Idealize.ShloMosaic Idealize.ShloMosaic.TcCoe Idealize.ShloMosaic.Tactic Idealize.SL.Sem
open Cert.ReferenceIdeal Cert.ReferenceIdeal.Gen Cert.Mlp

variable (m : (ℓ : Loc nD τ sig) → Buf (Elt Ideal) ℓ) (ρ : Dev nD → PrngReg)

/-! ## The reads of whole blocks -/

/-- Reading a whole array gives the array. -/
theorem ld0 (X : Vec Ideal S6x4096x5120 .bf16) : View.ld (Val := Elt Ideal) X r0_0 = X := View.ld_unit_zero (by decide) _ X
/-- Reading a whole array gives the array. -/
theorem ld1 (X : Vec Ideal S32x160x8192 .fp8e4m3) : View.ld (Val := Elt Ideal) X r0_1 = X := View.ld_unit_zero (by decide) _ X
/-- Reading a whole array gives the array. -/
theorem ld2 (X : Vec Ideal S1x8192 .f32) : View.ld (Val := Elt Ideal) X r0_2 = X := View.ld_unit_zero (by decide) _ X
/-- Reading a whole array gives the array. -/
theorem ld3 (X : Vec Ideal S8192x160 .fp8e4m3) : View.ld (Val := Elt Ideal) X r0_3 = X := View.ld_unit_zero (by decide) _ X
/-- Reading a whole array gives the array. -/
theorem ld4 (X : Vec Ideal S1x160 .f32) : View.ld (Val := Elt Ideal) X r0_4 = X := View.ld_unit_zero (by decide) _ X

/-- The body's hidden layer, from the arrays. -/
theorem pay16_eq (x0 : Vec Ideal S6x4096x5120 .bf16) (x1 : Vec Ideal S32x160x8192 .fp8e4m3) (x2 x3 : Vec Ideal S1x8192 .f32) (x4 : Vec Ideal S8192x160 .fp8e4m3) (x5 x6 : Vec Ideal S1x160 .f32) : k0_pay16 (F := Ideal) x0 x1 x2 x3 x4 x5 x6 = k0_pay6 x0 x1 x2 x3 := by
  unfold k0_pay16; rw [ld0, ld1, ld2, ld2]
/-- The body's hidden row maxima over 448, from the arrays. -/
theorem pay17_eq (x0 : Vec Ideal S6x4096x5120 .bf16) (x1 : Vec Ideal S32x160x8192 .fp8e4m3) (x2 x3 : Vec Ideal S1x8192 .f32) (x4 : Vec Ideal S8192x160 .fp8e4m3) (x5 x6 : Vec Ideal S1x160 .f32) : k0_pay17 (F := Ideal) x0 x1 x2 x3 x4 x5 x6 = k0_pay7 x0 x1 x2 x3 := by
  unfold k0_pay17; rw [ld0, ld1, ld2, ld2]
/-- The body's hidden exponents before the small rows are set to zero, from the arrays. -/
theorem pay18_eq (x0 : Vec Ideal S6x4096x5120 .bf16) (x1 : Vec Ideal S32x160x8192 .fp8e4m3) (x2 x3 : Vec Ideal S1x8192 .f32) (x4 : Vec Ideal S8192x160 .fp8e4m3) (x5 x6 : Vec Ideal S1x160 .f32) : k0_pay18 (F := Ideal) x0 x1 x2 x3 x4 x5 x6 = k0_pay8 x0 x1 x2 x3 := by
  unfold k0_pay18; rw [ld0, ld1, ld2, ld2]
/-- The body's row maxima of the second layer over 448, from the arrays. -/
theorem pay19_eq (x0 : Vec Ideal S6x4096x5120 .bf16) (x1 : Vec Ideal S32x160x8192 .fp8e4m3) (x2 x3 : Vec Ideal S1x8192 .f32) (x4 : Vec Ideal S8192x160 .fp8e4m3) (x5 x6 : Vec Ideal S1x160 .f32) : k0_pay19 (F := Ideal) x0 x1 x2 x3 x4 x5 x6 = k0_pay13 (k0_pay6 x0 x1 x2 x3) (k0_pay7 x0 x1 x2 x3) (k0_pay8 x0 x1 x2 x3) x4 x5 x6 := by
  unfold k0_pay19; rw [ld3, ld4, ld4, pay16_eq, pay17_eq, pay18_eq]
/-- The body's second exponents before the small rows are set to zero, from the arrays. -/
theorem pay20_eq (x0 : Vec Ideal S6x4096x5120 .bf16) (x1 : Vec Ideal S32x160x8192 .fp8e4m3) (x2 x3 : Vec Ideal S1x8192 .f32) (x4 : Vec Ideal S8192x160 .fp8e4m3) (x5 x6 : Vec Ideal S1x160 .f32) : k0_pay20 (F := Ideal) x0 x1 x2 x3 x4 x5 x6 = k0_pay14 (k0_pay6 x0 x1 x2 x3) (k0_pay7 x0 x1 x2 x3) (k0_pay8 x0 x1 x2 x3) x4 x5 x6 := by
  unfold k0_pay20; rw [ld3, ld4, ld4, pay16_eq, pay17_eq, pay18_eq]
/-- The bound below which a row of the second layer gets exponent zero, 2^-126 everywhere. -/
theorem pay21_eq (x0 : Vec Ideal S6x4096x5120 .bf16) (x1 : Vec Ideal S32x160x8192 .fp8e4m3) (x2 x3 : Vec Ideal S1x8192 .f32) (x4 : Vec Ideal S8192x160 .fp8e4m3) (x5 x6 : Vec Ideal S1x160 .f32) : k0_pay21 (F := Ideal) x0 x1 x2 x3 x4 x5 x6 = k0_pay15 := rfl

/-! ## The arrays after the run -/

/-- The hidden codes, at a cell. -/
theorem cell7 (c : Dev nD) (a : Fin 3) (b : Fin 2) (r : Fin 4096) (n : Fin 8192) : (show S3x2x4096x8192.Idx → EReal from k0_pay2 (F := Ideal) (k0_pay10 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)))) (ix4 a b r n) = HC (xA m c) (w1A m c) (s1A m c) (b1A m c) a b r n := by
  dsimp only
  rw [pay2_cell, hcode, hR_eq]; rfl

/-- The hidden codes. -/
theorem final7 (c : Dev nD) : (dats (F := Ideal) m 0 c).arrAt 7 cfg0.N = (fun i : S3x2x4096x8192.Idx => HC (xA m c) (w1A m c) (s1A m c) (b1A m c) (i 0) (i 1) (i 2) (i 3)) := by
  refine (dats (F := Ideal) m 0 c).arrAt_eq_of_after_last 7 t0_0 (by decide +kernel) _ fun j => ?_
  blk_simp
  rw [after0_7]
  frame_out
  rw [pay16_eq, pay17_eq, pay18_eq]
  have hj : j = ix4 (j 0) (j 1) (j 2) (j 3) := by blk_ext
  exact (congrArg (show S3x2x4096x8192.Idx → EReal from k0_pay2 (F := Ideal) (k0_pay10 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)))) hj).trans (cell7 m c (j 0) (j 1) (j 2) (j 3))

/-- The hidden scales, at a cell. -/
theorem cell8 (c : Dev nD) (a : Fin 3) (b : Fin 2) (r : Fin 4095) : (show S3x2x1x4095.Idx → EReal from k0_pay3 (F := Ideal) (k0_pay11 (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)))) (ix4 a b 0 r) = HS (xA m c) (w1A m c) (s1A m c) (b1A m c) a b (rOf r) := by
  dsimp only
  rw [pay3_cell, hscale, hR_eq]; rfl

/-- The hidden scales. -/
theorem final8 (c : Dev nD) : (dats (F := Ideal) m 0 c).arrAt 8 cfg0.N = (fun i : S3x2x1x4095.Idx => HS (xA m c) (w1A m c) (s1A m c) (b1A m c) (i 0) (i 1) (rOf (i 3))) := by
  refine (dats (F := Ideal) m 0 c).arrAt_eq_of_after_last 8 t0_0 (by decide +kernel) _ fun j => ?_
  blk_simp
  rw [after0_8]
  frame_out
  rw [pay17_eq, pay18_eq]
  have hj : j = ix4 (j 0) (j 1) 0 (j 3) := by blk_ext
  exact (congrArg (show S3x2x1x4095.Idx → EReal from k0_pay3 (F := Ideal) (k0_pay11 (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)))) hj).trans (cell8 m c (j 0) (j 1) (j 3))

/-- The second layer's codes, at a cell. -/
theorem cell9 (c : Dev nD) (a : Fin 3) (b : Fin 2) (o : Fin 160) (r : Fin 4095) : (show S3x2x160x4095.Idx → EReal from k0_pay4 (F := Ideal) (k0_pay12 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)) (iblk m c 4 t0_0) (iblk m c 5 t0_0) (iblk m c 6 t0_0)) (k0_pay13 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)) (iblk m c 4 t0_0) (iblk m c 5 t0_0) (iblk m c 6 t0_0)) (k0_pay14 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)) (iblk m c 4 t0_0) (iblk m c 5 t0_0) (iblk m c 6 t0_0)) k0_pay15) (ix4 a b o r) = CK (xA m c) (w1A m c) (s1A m c) (b1A m c) (w2A m c) (s2A m c) (b2A m c) a b (rOf r) o := by
  dsimp only
  rw [pay4_cell, crow, pay1_cell, cmaxR, cR_eq]; rfl

/-- The second layer's codes. -/
theorem final9 (c : Dev nD) : (dats (F := Ideal) m 0 c).arrAt 9 cfg0.N = (fun i : S3x2x160x4095.Idx => CK (xA m c) (w1A m c) (s1A m c) (b1A m c) (w2A m c) (s2A m c) (b2A m c) (i 0) (i 1) (rOf (i 3)) (i 2)) := by
  refine (dats (F := Ideal) m 0 c).arrAt_eq_of_after_last 9 t0_0 (by decide +kernel) _ fun j => ?_
  blk_simp
  rw [after0_9]
  frame_out
  rw [pay16_eq, pay17_eq, pay18_eq, pay19_eq, pay20_eq, pay21_eq]
  have hj : j = ix4 (j 0) (j 1) (j 2) (j 3) := by blk_ext
  exact (congrArg (show S3x2x160x4095.Idx → EReal from k0_pay4 (F := Ideal) (k0_pay12 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)) (iblk m c 4 t0_0) (iblk m c 5 t0_0) (iblk m c 6 t0_0)) (k0_pay13 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)) (iblk m c 4 t0_0) (iblk m c 5 t0_0) (iblk m c 6 t0_0)) (k0_pay14 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)) (iblk m c 4 t0_0) (iblk m c 5 t0_0) (iblk m c 6 t0_0)) k0_pay15) hj).trans (cell9 m c (j 0) (j 1) (j 2) (j 3))

/-- The second layer's scales, at a cell. -/
theorem cell10 (c : Dev nD) (a : Fin 3) (b : Fin 2) (r : Fin 4095) : (show S3x2x1x4095.Idx → EReal from k0_pay5 (F := Ideal) (k0_pay13 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)) (iblk m c 4 t0_0) (iblk m c 5 t0_0) (iblk m c 6 t0_0)) (k0_pay14 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)) (iblk m c 4 t0_0) (iblk m c 5 t0_0) (iblk m c 6 t0_0)) k0_pay15) (ix4 a b 0 r) = CKS (xA m c) (w1A m c) (s1A m c) (b1A m c) (w2A m c) (s2A m c) (b2A m c) a b (rOf r) := by
  dsimp only
  rw [pay5_cell, pay1_cell, cmaxR, cR_eq]; rfl

/-- The second layer's scales. -/
theorem final10 (c : Dev nD) : (dats (F := Ideal) m 0 c).arrAt 10 cfg0.N = (fun i : S3x2x1x4095.Idx => CKS (xA m c) (w1A m c) (s1A m c) (b1A m c) (w2A m c) (s2A m c) (b2A m c) (i 0) (i 1) (rOf (i 3))) := by
  refine (dats (F := Ideal) m 0 c).arrAt_eq_of_after_last 10 t0_0 (by decide +kernel) _ fun j => ?_
  blk_simp
  rw [after0_10]
  frame_out
  rw [pay19_eq, pay20_eq, pay21_eq]
  have hj : j = ix4 (j 0) (j 1) 0 (j 3) := by blk_ext
  exact (congrArg (show S3x2x1x4095.Idx → EReal from k0_pay5 (F := Ideal) (k0_pay13 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)) (iblk m c 4 t0_0) (iblk m c 5 t0_0) (iblk m c 6 t0_0)) (k0_pay14 (k0_pay6 (iblk m c 0 t0_0) (iblk m c 1 t0_0) (iblk m c 2 t0_0) (iblk m c 3 t0_0)) (k0_pay7 (iblk m c 0 t0_0) (iblk m c 1 t0_0) (iblk m c 2 t0_0) (iblk m c 3 t0_0)) (k0_pay8 (iblk m c 0 t0_0) (iblk m c 1 t0_0) (iblk m c 2 t0_0) (iblk m c 3 t0_0)) (iblk m c 4 t0_0) (iblk m c 5 t0_0) (iblk m c 6 t0_0)) k0_pay15) hj).trans (cell10 m c (j 0) (j 1) (j 3))

end Cert.ReferenceIdeal.Run

end
-- ==== Proof.RefResult.lean ====
/- The reference's run, with its results as functions of the arguments. -/
module

public import proofs.«01_k».proof.Proof.RefValue
public import Idealize.ShloMosaic.Lib.Claim

@[expose] public section

set_option maxRecDepth 16384

noncomputable section

namespace Cert.ReferenceIdeal.Run

open Idealize.ShloMosaic Idealize.ShloMosaic.TcCoe Idealize.ShloMosaic.Tactic Idealize.SL.Sem
open Cert.ReferenceIdeal Cert.ReferenceIdeal.Gen Cert.Mlp

variable (m : (ℓ : Loc nD τ sig) → Buf (Elt Ideal) ℓ) (ρ : Dev nD → PrngReg)

/-- The run: the results hold the specification of the arguments, the arguments end unchanged. -/
theorem run : θ_run defs (onTc (τ := τ) (main (F := Ideal))) ⟨m, fun _ => 0, ρ⟩ fun r => ∀ c : Dev nD,
      r.2.mem ((c.tc : Thread nD τ).loc main_v4_0) = (fun i : S3x2x4096x8192.Idx => HC (xA m c) (w1A m c) (s1A m c) (b1A m c) (i 0) (i 1) (i 2) (i 3)) ∧
      r.2.mem ((c.tc : Thread nD τ).loc main_v4_1) = (fun i : S3x2x1x4095.Idx => HS (xA m c) (w1A m c) (s1A m c) (b1A m c) (i 0) (i 1) (rOf (i 3))) ∧
      r.2.mem ((c.tc : Thread nD τ).loc main_v4_2) = (fun i : S3x2x160x4095.Idx => CK (xA m c) (w1A m c) (s1A m c) (b1A m c) (w2A m c) (s2A m c) (b2A m c) (i 0) (i 1) (rOf (i 3)) (i 2)) ∧
      r.2.mem ((c.tc : Thread nD τ).loc main_v4_3) = (fun i : S3x2x1x4095.Idx => CKS (xA m c) (w1A m c) (s1A m c) (b1A m c) (w2A m c) (s2A m c) (b2A m c) (i 0) (i 1) (rOf (i 3))) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) :=
  (θ_run defs _ _).mono (fun r h c => by
      obtain ⟨h0, h1, h2, h3, hr⟩ := h c
      exact ⟨h0.trans (final7 m c), h1.trans (final8 m c), h2.trans (final9 m c), h3.trans (final10 m c), hr⟩)
    (Value.run_blocks m ρ)

end Cert.ReferenceIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Bits.Run
public import proofs.«01_k».proof.Proof.Ideal.Result
public import proofs.«01_k».proof.Proof.RefResult
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The program: the arguments unchanged, every counter at zero. -/
theorem quiescent_kernel : Cert.quiescent_Kernel (hKernel := Cert.Kernel.Gen.facts) := by
  intro m g _
  exact Cert.Kernel.Run.frame m g

/-- Its idealization likewise. -/
theorem quiescent_kernelIdeal : Cert.quiescent_KernelIdeal (hKernelIdeal := Cert.KernelIdeal.Gen.facts) := by
  intro m g _
  exact Cert.KernelIdeal.Run.frame m g

/-- The reference likewise. -/
theorem quiescent_referenceIdeal : Cert.quiescent_ReferenceIdeal (hReferenceIdeal := Cert.ReferenceIdeal.Gen.facts) := by
  intro m g _
  exact Cert.ReferenceIdeal.Gen.frame m g

/-- The two runs end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, _, _, Cert.KernelIdeal.Run.run m g, (θ_run _ _ _).mono (fun r h c => ?_) (Cert.ReferenceIdeal.Run.run m' g')⟩
  obtain ⟨a0, a1, a2, a3, a4, a5, a6⟩ := hagree c
  obtain ⟨h0, h1, h2, h3, hr⟩ := h c
  simp only [Cert.ReferenceIdeal.Run.xA, Cert.ReferenceIdeal.Run.w1A, Cert.ReferenceIdeal.Run.s1A, Cert.ReferenceIdeal.Run.b1A, Cert.ReferenceIdeal.Run.w2A, Cert.ReferenceIdeal.Run.s2A, Cert.ReferenceIdeal.Run.b2A, a0, a1, a2, a3, a4, a5, a6] at h0 h1 h2 h3
  exact ⟨h0, h1, h2, h3, hr⟩

/-- Everything claimed. -/
theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
